-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![1024, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 256]⟩ ⟨2, ![1024, 1024]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![256, 1024]⟩ ⟨2, ![1024, 1024]⟩ (Layout.meshBlock [2, 2, 4] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![1024, 256]⟩ ⟨2, ![1024, 1024]⟩ (Layout.meshBlock [2, 2, 4] ![[], [2]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S256x1024 : Shape := ⟨2, ![256, 1024]⟩
abbrev S1024x256 : Shape := ⟨2, ![1024, 256]⟩
abbrev S3 : Shape := ⟨1, ![3]⟩
abbrev S_ : Shape := ⟨0, ![]⟩
abbrev S256x256 : Shape := ⟨2, ![256, 256]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S256x1024, .bf16⟩
  | .hbm, ⟨1, _⟩ => ⟨S1024x256, .bf16⟩
  | .local _ .vmem, ⟨0, _⟩ => ⟨S256x1024, .bf16⟩
  | .local _ .vmem, ⟨1, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let v11 : BitVec 32 := Scalar.remsi v10 c4_i32_3
  let c1_i32_7 : BitVec 32 := 1#32
  let v16 : BitVec 32 := Scalar.muli v11 c1_i32_7
  let v17 : BitVec 32 := Scalar.addi v15 v16
  v17.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v20 : BitVec 32 := Scalar.muli v2 c8_i32_11
  let v21 : BitVec 32 := Scalar.addi c0_i32_12 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v18 : BitVec 32 := Scalar.addi v8 c2_i32_8
  let c4_i32_9 : BitVec 32 := 4#32
  let v19 : BitVec 32 := Scalar.remsi v18 c4_i32_9
  let c1_i32_14 : BitVec 32 := 1#32
  let v24 : BitVec 32 := Scalar.muli v19 c1_i32_14
  let v25 : BitVec 32 := Scalar.addi v23 v24
  v25.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v26 : BitVec 32 := Scalar.addi v8 c3_i32
  let c4_i32_15 : BitVec 32 := 4#32
  let v27 : BitVec 32 := Scalar.remsi v26 c4_i32_15
  let c1_i32_20 : BitVec 32 := 1#32
  let v32 : BitVec 32 := Scalar.muli v27 c1_i32_20
  let v33 : BitVec 32 := Scalar.addi v31 v32
  v33.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_24 : BitVec 32 := 256#32
  let v39 : BitVec 32 := Scalar.muli v8 c256_i32_24
  let c0_i32_25 : BitVec 32 := 0#32
  ![v39.toNat, 0]
def k0_off2 (d0 : Dev nD) : Fin 2 → Nat :=
  let c0_i32_26 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v38 : BitVec 32 := Scalar.muli v8 c256_i32
  ![0, v38.toNat]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v42 : BitVec 1 := Scalar.cmpi .eq v8 c0_i32_28
  let v43 : BitVec 32 := Scalar.extui v42
  let c0_i32_29 : BitVec 32 := 0#32
  let v44 : BitVec 1 := Scalar.cmpi .ne v43 c0_i32_29
  v44

def k0_dev4 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v56 : BitVec 32 := Scalar.muli v2 c8_i32_41
  let v57 : BitVec 32 := Scalar.addi c0_i32_42 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v58 : BitVec 32 := Scalar.muli v5 c4_i32_43
  let v59 : BitVec 32 := Scalar.addi v57 v58
  let c3_i32_40 : BitVec 32 := 3#32
  let c1_i32_44 : BitVec 32 := 1#32
  let v60 : BitVec 32 := Scalar.muli c3_i32_40 c1_i32_44
  let v61 : BitVec 32 := Scalar.addi v59 v60
  v61.toNat
def k0_dev5 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v68 : BitVec 32 := Scalar.muli v2 c8_i32_51
  let v69 : BitVec 32 := Scalar.addi c0_i32_52 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_53 : BitVec 32 := 4#32
  let v70 : BitVec 32 := Scalar.muli v5 c4_i32_53
  let v71 : BitVec 32 := Scalar.addi v69 v70
  let c2_i32_50 : BitVec 32 := 2#32
  let c1_i32_54 : BitVec 32 := 1#32
  let v72 : BitVec 32 := Scalar.muli c2_i32_50 c1_i32_54
  let v73 : BitVec 32 := Scalar.addi v71 v72
  v73.toNat
def k0_dev6 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v80 : BitVec 32 := Scalar.muli v2 c8_i32_61
  let v81 : BitVec 32 := Scalar.addi c0_i32_62 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v82 : BitVec 32 := Scalar.muli v5 c4_i32_63
  let v83 : BitVec 32 := Scalar.addi v81 v82
  let c1_i32_60 : BitVec 32 := 1#32
  let c1_i32_64 : BitVec 32 := 1#32
  let v84 : BitVec 32 := Scalar.muli c1_i32_60 c1_i32_64
  let v85 : BitVec 32 := Scalar.addi v83 v84
  v85.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v45 : BitVec 1 := Scalar.cmpi .eq v8 c1_i32_30
  let v46 : BitVec 32 := Scalar.extui v45
  let c0_i32_31 : BitVec 32 := 0#32
  let v47 : BitVec 1 := Scalar.cmpi .ne v46 c0_i32_31
  v47

def k0_dev7 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v56 : BitVec 32 := Scalar.muli v2 c8_i32_41
  let v57 : BitVec 32 := Scalar.addi c0_i32_42 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v58 : BitVec 32 := Scalar.muli v5 c4_i32_43
  let v59 : BitVec 32 := Scalar.addi v57 v58
  let c3_i32_40 : BitVec 32 := 3#32
  let c1_i32_44 : BitVec 32 := 1#32
  let v60 : BitVec 32 := Scalar.muli c3_i32_40 c1_i32_44
  let v61 : BitVec 32 := Scalar.addi v59 v60
  v61.toNat
def k0_dev8 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v68 : BitVec 32 := Scalar.muli v2 c8_i32_51
  let v69 : BitVec 32 := Scalar.addi c0_i32_52 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_53 : BitVec 32 := 4#32
  let v70 : BitVec 32 := Scalar.muli v5 c4_i32_53
  let v71 : BitVec 32 := Scalar.addi v69 v70
  let c0_i32_50 : BitVec 32 := 0#32
  let c1_i32_54 : BitVec 32 := 1#32
  let v72 : BitVec 32 := Scalar.muli c0_i32_50 c1_i32_54
  let v73 : BitVec 32 := Scalar.addi v71 v72
  v73.toNat
def k0_dev9 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v80 : BitVec 32 := Scalar.muli v2 c8_i32_62
  let v81 : BitVec 32 := Scalar.addi c0_i32_63 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_64 : BitVec 32 := 4#32
  let v82 : BitVec 32 := Scalar.muli v5 c4_i32_64
  let v83 : BitVec 32 := Scalar.addi v81 v82
  let c2_i32_61 : BitVec 32 := 2#32
  let c1_i32_65 : BitVec 32 := 1#32
  let v84 : BitVec 32 := Scalar.muli c2_i32_61 c1_i32_65
  let v85 : BitVec 32 := Scalar.addi v83 v84
  v85.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_32 : BitVec 32 := 2#32
  let v48 : BitVec 1 := Scalar.cmpi .eq v8 c2_i32_32
  let v49 : BitVec 32 := Scalar.extui v48
  let c0_i32_33 : BitVec 32 := 0#32
  let v50 : BitVec 1 := Scalar.cmpi .ne v49 c0_i32_33
  v50

def k0_dev10 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v56 : BitVec 32 := Scalar.muli v2 c8_i32_41
  let v57 : BitVec 32 := Scalar.addi c0_i32_42 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v58 : BitVec 32 := Scalar.muli v5 c4_i32_43
  let v59 : BitVec 32 := Scalar.addi v57 v58
  let c0_i32_40 : BitVec 32 := 0#32
  let c1_i32_44 : BitVec 32 := 1#32
  let v60 : BitVec 32 := Scalar.muli c0_i32_40 c1_i32_44
  let v61 : BitVec 32 := Scalar.addi v59 v60
  v61.toNat
def k0_dev11 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v68 : BitVec 32 := Scalar.muli v2 c8_i32_51
  let v69 : BitVec 32 := Scalar.addi c0_i32_52 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_53 : BitVec 32 := 4#32
  let v70 : BitVec 32 := Scalar.muli v5 c4_i32_53
  let v71 : BitVec 32 := Scalar.addi v69 v70
  let c1_i32_50 : BitVec 32 := 1#32
  let c1_i32_54 : BitVec 32 := 1#32
  let v72 : BitVec 32 := Scalar.muli c1_i32_50 c1_i32_54
  let v73 : BitVec 32 := Scalar.addi v71 v72
  v73.toNat
def k0_dev12 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v80 : BitVec 32 := Scalar.muli v2 c8_i32_62
  let v81 : BitVec 32 := Scalar.addi c0_i32_63 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_64 : BitVec 32 := 4#32
  let v82 : BitVec 32 := Scalar.muli v5 c4_i32_64
  let v83 : BitVec 32 := Scalar.addi v81 v82
  let c3_i32_61 : BitVec 32 := 3#32
  let c1_i32_65 : BitVec 32 := 1#32
  let v84 : BitVec 32 := Scalar.muli c3_i32_61 c1_i32_65
  let v85 : BitVec 32 := Scalar.addi v83 v84
  v85.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_34 : BitVec 32 := 3#32
  let v51 : BitVec 1 := Scalar.cmpi .eq v8 c3_i32_34
  let v52 : BitVec 32 := Scalar.extui v51
  let c0_i32_35 : BitVec 32 := 0#32
  let v53 : BitVec 1 := Scalar.cmpi .ne v52 c0_i32_35
  v53

def k0_dev13 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v56 : BitVec 32 := Scalar.muli v2 c8_i32_41
  let v57 : BitVec 32 := Scalar.addi c0_i32_42 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v58 : BitVec 32 := Scalar.muli v5 c4_i32_43
  let v59 : BitVec 32 := Scalar.addi v57 v58
  let c0_i32_40 : BitVec 32 := 0#32
  let c1_i32_44 : BitVec 32 := 1#32
  let v60 : BitVec 32 := Scalar.muli c0_i32_40 c1_i32_44
  let v61 : BitVec 32 := Scalar.addi v59 v60
  v61.toNat
def k0_dev14 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v68 : BitVec 32 := Scalar.muli v2 c8_i32_51
  let v69 : BitVec 32 := Scalar.addi c0_i32_52 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_53 : BitVec 32 := 4#32
  let v70 : BitVec 32 := Scalar.muli v5 c4_i32_53
  let v71 : BitVec 32 := Scalar.addi v69 v70
  let c1_i32_50 : BitVec 32 := 1#32
  let c1_i32_54 : BitVec 32 := 1#32
  let v72 : BitVec 32 := Scalar.muli c1_i32_50 c1_i32_54
  let v73 : BitVec 32 := Scalar.addi v71 v72
  v73.toNat
def k0_dev15 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v80 : BitVec 32 := Scalar.muli v2 c8_i32_62
  let v81 : BitVec 32 := Scalar.addi c0_i32_63 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_64 : BitVec 32 := 4#32
  let v82 : BitVec 32 := Scalar.muli v5 c4_i32_64
  let v83 : BitVec 32 := Scalar.addi v81 v82
  let c2_i32_61 : BitVec 32 := 2#32
  let c1_i32_65 : BitVec 32 := 1#32
  let v84 : BitVec 32 := Scalar.muli c2_i32_61 c1_i32_65
  let v85 : BitVec 32 := Scalar.addi v83 v84
  v85.toNat
-- ==== Reference.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geometry.lean ====
/-
The mesh, the buffers and their blocks, and what every buffer is to hold.

The sixteen devices are numbered so that the `z` coordinate is the number modulo four and the four devices of one group
(equal `x` and `y`) are consecutive. The exchanged array of a device is `1024 × 256`; its rows are cut into four blocks of
256, one from each device of the group. The staged block is `256 × 1024`; its columns are cut into four blocks of 256, one
for each device of the group.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

/-- The place of a device in its group: its `z` coordinate. -/
def row (c : Dev nD) : Fin 4 := ⟨c.val % 4, Nat.mod_lt _ (by decide)⟩

theorem mate_lt (r : Fin 4) (c : Dev nD) : 4 * (c.val / 4) + r.val < nD := by
  have h1 : c.val < 16 := c.isLt
  have h2 := r.isLt
  show _ < 16
  omega

/-- The device at place `r` of the group of `c`. -/
def mate (r : Fin 4) (c : Dev nD) : Dev nD := ⟨4 * (c.val / 4) + r.val, mate_lt r c⟩

/-- The device `j + 1` places after `c` in its group, round the group: the one that `c`'s send `j` goes to. -/
def nxt (j : Fin 3) (c : Dev nD) : Dev nD := mate ⟨(c.val % 4 + (j.val + 1)) % 4, Nat.mod_lt _ (by decide)⟩ c
/-- The device `j + 1` places before `c` in its group: the one that `c`'s receive `j` comes from. -/
def prv (j : Fin 3) (c : Dev nD) : Dev nD := mate ⟨(c.val % 4 + (3 - j.val)) % 4, Nat.mod_lt _ (by decide)⟩ c

theorem prv_nxt (j : Fin 3) (c : Dev nD) : prv j (nxt j c) = c := by revert j c; decide
theorem nxt_prv (j : Fin 3) (c : Dev nD) : nxt j (prv j c) = c := by revert j c; decide

/-- Walking the group in the other direction: `j + 1` places before is `4 - (j + 1)` places after. -/
def opp (j : Fin 3) : Fin 3 := ⟨2 - j.val, by omega⟩
theorem prv_opp (j : Fin 3) (c : Dev nD) : prv (opp j) c = nxt j c := by revert j c; decide
theorem nxt_opp (j : Fin 3) (c : Dev nD) : nxt (opp j) c = prv j c := by revert j c; decide
theorem opp_opp (j : Fin 3) : opp (opp j) = j := by revert j; decide

theorem mate_row (c : Dev nD) : mate (row c) c = c := by revert c; decide
theorem mate_row_nxt (j : Fin 3) (c : Dev nD) : mate (row c) (nxt j c) = c := by revert j c; decide
theorem mate_row_prv (j : Fin 3) (c : Dev nD) : mate (row (prv j c)) c = prv j c := by revert j c; decide

/-- The map `nxt j` as a permutation of the devices. -/
def around (j : Fin 3) : Dev nD ≃ Dev nD := ⟨nxt j, prv j, prv_nxt j, nxt_prv j⟩

/-- The four places of a group are the device's own and the three it sends to; -/
theorem places_nxt (c : Dev nD) : ({row c, row (nxt 0 c), row (nxt 1 c), row (nxt 2 c)} : Finset (Fin 4)) = Finset.univ := by
  revert c; decide
/-- also its own and the three it receives from. -/
theorem places_prv (c : Dev nD) : ({row c, row (prv 0 c), row (prv 1 c), row (prv 2 c)} : Finset (Fin 4)) = Finset.univ := by
  revert c; decide

/-! ## Buffers and blocks -/

/-- The argument and the result in HBM, the copy of the argument and the staged block in VMEM. -/
abbrev xM : Memref sig .tc .hbm S256x1024 .bf16 := Memref.whole main_arg0
abbrev oM : Memref sig .tc .hbm S1024x256 .bf16 := Memref.whole main_v1
abbrev vM : Memref sig .tc .vmem S256x1024 .bf16 := Memref.whole cc0_scratch0
abbrev gM : Memref sig .tc .vmem S256x1024 .bf16 := Memref.whole cc0_scratch1

theorem inb_rows (r : Fin 4) : ∀ a, (![256 * r.val, 0] : Fin 2 → Nat) a + S256x256.size a ≤ S1024x256.size a := by revert r; decide
theorem inb_cols (r : Fin 4) : ∀ a, (![0, 256 * r.val] : Fin 2 → Nat) a + S256x256.size a ≤ S256x1024.size a := by revert r; decide

/-- Row block `r` of the result; -/
abbrev oB (r : Fin 4) : Memref sig .tc .hbm S256x256 .bf16 :=
  oM.slice (Rect.unit (s := S1024x256) ![256 * r.val, 0] S256x256.size (inb_rows r)) (fun _ => rfl)
/-- column block `p` of the staged block. -/
abbrev gB (p : Fin 4) : Memref sig .tc .vmem S256x256 .bf16 :=
  gM.slice (Rect.unit (s := S256x1024) ![0, 256 * p.val] S256x256.size (inb_cols p)) (fun _ => rfl)

theorem oB_emb0 (r : Fin 4) (y : S256x256.Idx) : ((oB r).view.emb y (0 : Fin 2)).val = 256 * r.val + (y (0 : Fin 2)).val := by
  show 256 * r.val + 1 * (y (0 : Fin 2)).val = _
  omega
theorem oB_emb1 (r : Fin 4) (y : S256x256.Idx) : ((oB r).view.emb y (1 : Fin 2)).val = (y (1 : Fin 2)).val := by
  show 0 + 1 * (y (1 : Fin 2)).val = _
  omega
theorem gB_emb0 (p : Fin 4) (y : S256x256.Idx) : ((gB p).view.emb y (0 : Fin 2)).val = (y (0 : Fin 2)).val := by
  show 0 + 1 * (y (0 : Fin 2)).val = _
  omega
theorem gB_emb1 (p : Fin 4) (y : S256x256.Idx) : ((gB p).view.emb y (1 : Fin 2)).val = 256 * p.val + (y (1 : Fin 2)).val := by
  show 256 * p.val + 1 * (y (1 : Fin 2)).val = _
  omega

/-- An element of the result lies in row block `r` exactly when its row is among the block's 256. -/
theorem mem_oB (r : Fin 4) (i : S1024x256.Idx) : i ∈ (oB r).view.set ↔ (i (0 : Fin 2)).val / 256 = r.val := by
  constructor
  · intro h
    obtain ⟨y, -, hy⟩ := Finset.mem_map.mp h
    have h0 : (i (0 : Fin 2)).val = 256 * r.val + (y (0 : Fin 2)).val := by rw [← hy]; exact oB_emb0 r y
    have hl : (y (0 : Fin 2)).val < 256 := (y (0 : Fin 2)).isLt
    omega
  · intro h
    refine Finset.mem_map.mpr ⟨fun a => match a with
      | ⟨0, _⟩ => (⟨(i (0 : Fin 2)).val % 256, Nat.mod_lt _ (by decide)⟩ : Fin 256)
      | ⟨1, _⟩ => (⟨(i (1 : Fin 2)).val, (i (1 : Fin 2)).isLt⟩ : Fin 256), Finset.mem_univ _, ?_⟩
    funext a
    refine Fin.ext ?_
    match a with
    | ⟨0, _⟩ =>
      refine (oB_emb0 r _).trans ?_
      show 256 * r.val + (i (0 : Fin 2)).val % 256 = (i (0 : Fin 2)).val
      omega
    | ⟨1, _⟩ => exact oB_emb1 r _

/-- An element of the staged block lies in column block `p` exactly when its column is among the block's 256. -/
theorem mem_gB (p : Fin 4) (i : S256x1024.Idx) : i ∈ (gB p).view.set ↔ (i (1 : Fin 2)).val / 256 = p.val := by
  constructor
  · intro h
    obtain ⟨y, -, hy⟩ := Finset.mem_map.mp h
    have h0 : (i (1 : Fin 2)).val = 256 * p.val + (y (1 : Fin 2)).val := by rw [← hy]; exact gB_emb1 p y
    have hl : (y (1 : Fin 2)).val < 256 := (y (1 : Fin 2)).isLt
    omega
  · intro h
    refine Finset.mem_map.mpr ⟨fun a => match a with
      | ⟨0, _⟩ => (⟨(i (0 : Fin 2)).val, (i (0 : Fin 2)).isLt⟩ : Fin 256)
      | ⟨1, _⟩ => (⟨(i (1 : Fin 2)).val % 256, Nat.mod_lt _ (by decide)⟩ : Fin 256), Finset.mem_univ _, ?_⟩
    funext a
    refine Fin.ext ?_
    match a with
    | ⟨0, _⟩ => exact gB_emb0 p _
    | ⟨1, _⟩ =>
      refine (gB_emb1 p _).trans ?_
      show 256 * p.val + (i (1 : Fin 2)).val % 256 = (i (1 : Fin 2)).val
      omega

theorem oB_disjoint (r r' : Fin 4) (h : r ≠ r') : Disjoint (oB r).view.set (oB r').view.set :=
  Finset.disjoint_left.mpr fun i hi hi' => h (Fin.ext (((mem_oB r i).mp hi).symm.trans ((mem_oB r' i).mp hi')))
theorem gB_disjoint (r r' : Fin 4) (h : r ≠ r') : Disjoint (gB r).view.set (gB r').view.set :=
  Finset.disjoint_left.mpr fun i hi hi' => h (Fin.ext (((mem_gB r i).mp hi).symm.trans ((mem_gB r' i).mp hi')))
theorem oB_cover : (Finset.univ.biUnion fun r : Fin 4 => (oB r).view.set) = (Finset.univ : Finset S1024x256.Idx) :=
  Finset.eq_univ_iff_forall.mpr fun i => Finset.mem_biUnion.mpr
    ⟨⟨(i (0 : Fin 2)).val / 256, by have h : (i (0 : Fin 2)).val < 1024 := (i (0 : Fin 2)).isLt; omega⟩, Finset.mem_univ _, (mem_oB _ i).mpr rfl⟩
theorem gB_cover : (Finset.univ.biUnion fun r : Fin 4 => (gB r).view.set) = (Finset.univ : Finset S256x1024.Idx) :=
  Finset.eq_univ_iff_forall.mpr fun i => Finset.mem_biUnion.mpr
    ⟨⟨(i (1 : Fin 2)).val / 256, by have h : (i (1 : Fin 2)).val < 1024 := (i (1 : Fin 2)).isLt; omega⟩, Finset.mem_univ _, (mem_gB _ i).mpr rfl⟩

/-! ## Contents -/

section Contents

-- The arguments of the sixteen devices.
variable (X : Dev nD → (main_arg0 : Ref sig .tc).ty.Contents (Elt F))

/-- What device `c` stages: its argument. -/
def staged (c : Dev nD) : (cc0_scratch1 : Ref sig .tc).ty.Contents (Elt F) := X c
/-- What device `c` fetches: its argument. -/
def fetched (c : Dev nD) : (cc0_scratch0 : Ref sig .tc).ty.Contents (Elt F) := X c

/-- The element of a device's argument that ends at element `i` of the result of `c`: the row within the block, and the
    column of the block that belongs to `c`. -/
def origin (c : Dev nD) (i : S1024x256.Idx) : S256x1024.Idx := fun a => match a with
  | ⟨0, _⟩ => (⟨(i (0 : Fin 2)).val % 256, Nat.mod_lt _ (by decide)⟩ : Fin 256)
  | ⟨1, _⟩ => (⟨256 * (c.val % 4) + (i (1 : Fin 2)).val, by
      have h : (i (1 : Fin 2)).val < 256 := (i (1 : Fin 2)).isLt
      omega⟩ : Fin 1024)

/-- The block that row `i` of a result belongs to. -/
def blockOf (i : S1024x256.Idx) : Fin 4 := ⟨(i (0 : Fin 2)).val / 256, by
  have h : (i (0 : Fin 2)).val < 1024 := (i (0 : Fin 2)).isLt
  omega⟩

/-- The result of device `c`: row block `r` is the column block of `c` in the argument of the device at place `r` of its
    group. -/
def result (c : Dev nD) : (main_v1 : Ref sig .tc).ty.Contents (Elt F) := fun i => X (mate (blockOf i) c) (origin c i)

omit [FloatOps F] in
/-- Column block `row c` of what device `s` stages, written over row block `row s` of whatever device `c` holds, is there
    the result of `c`, when `s` is in the group of `c`. -/
theorem landed (c s : Dev nD) (hs : mate (row s) c = s) (f : (main_v1 : Ref sig .tc).ty.Contents (Elt F)) :
    ∀ i ∈ (oB (row s)).view.set,
      (oB (row s)).view.write (Elt F) f ((gB (row c)).view.read (Elt F) (staged X s)) Finset.univ i = result X c i := by
  intro i hi
  obtain ⟨y, -, rfl⟩ := Finset.mem_map.mp hi
  rw [View.write_emb_of_mem (v := (oB (row s)).view) (Val := Elt F) _ _ (Finset.mem_univ y), View.read_apply]
  show X s ((gB (row c)).view.emb y) = X (mate (blockOf ((oB (row s)).view.emb y)) c) (origin c ((oB (row s)).view.emb y))
  have hb : blockOf ((oB (row s)).view.emb y) = row s := Fin.ext ((mem_oB (row s) _).mp hi)
  rw [hb, hs]
  congr 1
  funext a
  refine Fin.ext ?_
  have hl : (y (0 : Fin 2)).val < 256 := (y (0 : Fin 2)).isLt
  match a with
  | ⟨0, _⟩ =>
    refine (gB_emb0 (row c) y).trans ?_
    show _ = ((oB (row s)).view.emb y (0 : Fin 2)).val % 256
    rw [oB_emb0]
    omega
  | ⟨1, _⟩ =>
    refine (gB_emb1 (row c) y).trans ?_
    show 256 * (c.val % 4) + _ = 256 * (c.val % 4) + ((oB (row s)).view.emb y (1 : Fin 2)).val
    rw [oB_emb1]

omit [FloatOps F] in
/-- The stored payload is the fetched block: a cast to the same shape changes nothing. -/
theorem stored (v : Vec F S256x1024 .bf16) : k0_pay1 v = v := shapeCast_self _ _

end Contents

end Cert.Exchange

end
-- ==== Proof.Schedule.lean ====
/-
The protocol: for each semaphore of a device, who pays onto it, how much, and what the payment hands over.

Every semaphore is used for one round. On device `c`:

* the barrier semaphore is paid one unit by each of the three other devices of the group. Duty `j` is paid by `prv j c`
  and hands `c` the row block of `prv j c`'s result that `c` is going to write;
* receive semaphore `j` is paid by the send of `prv j c` and hands `c` the row block of its own result that this send wrote,
  holding what the result is to hold there;
* send semaphore `j` is paid by `c`'s own send `j` and hands back the column block that was sent;
* the copy semaphore is paid by `c`'s copy within itself and hands back the column block copied and the row block written;
* the fetch semaphore is paid by the fetch of the argument and hands back the argument and the fetched copy.
-/
module

public import proofs.«01_k».proof.Proof.Geometry

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own copy, and the protocol's with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells -/

/-- The barrier semaphore. -/
abbrev barS : Sem sig := (SemArray.scalar (sig.barrier 0 rfl) : Sems sig S_).sem
/-- The three send semaphores, the three receive semaphores, the copy semaphore and the fetch semaphore. -/
abbrev sndS (j : Fin 3) : DmaSem sig := (⟨j.val, by omega⟩ : Fin 8)
abbrev rcvS (j : Fin 3) : DmaSem sig := (⟨j.val + 3, by omega⟩ : Fin 8)
abbrev cpyS : DmaSem sig := (6 : Fin 8)
abbrev inS : DmaSem sig := (7 : Fin 8)

abbrev barC (c : Dev nD) : GSem nD τ sig := ((c : Thread nD τ), .reg barS)
abbrev sndC (j : Fin 3) (c : Dev nD) : GSem nD τ sig := ((c : Thread nD τ), .dma (sndS j))
abbrev rcvC (j : Fin 3) (c : Dev nD) : GSem nD τ sig := ((c : Thread nD τ), .dma (rcvS j))
abbrev cpyC (c : Dev nD) : GSem nD τ sig := ((c : Thread nD τ), .dma cpyS)
abbrev inC (c : Dev nD) : GSem nD τ sig := ((c : Thread nD τ), .dma inS)

/-- The eight DMA semaphores of a device, which belong to the launch; -/
abbrev osem (k : Fin 8) : SemLoc sig := .dma k
/-- with the barrier semaphore, all nine. -/
abbrev csem : Fin 9 → SemLoc sig := Fin.cases (.reg barS) osem
abbrev kcell (ck : Dev nD × Fin 9) : GSem nD τ sig := ((ck.1 : Thread nD τ), csem ck.2)

/-- The credit of one block's transfer and of the whole argument's. -/
abbrev NB : ℕ := (oB 0).view.dmaCredit
abbrev NX : ℕ := (vM : Memref sig .tc .vmem S256x1024 .bf16).view.dmaCredit
theorem NB_pos : 0 < NB := View.dmaCredit_pos _ (by decide)
theorem NX_pos : 0 < NX := View.dmaCredit_pos _ (by decide)

/-! ## What is handed over -/

section Payloads

variable (X : Dev nD → (main_arg0 : Ref sig .tc).ty.Contents (Elt F))

/-- Row block `r` of `c`'s result, holding `f` there. -/
def outPts (c : Dev nD) (r : Fin 4) (f : (main_v1 : Ref sig .tc).ty.Contents (Elt F)) : sProp 𝕄 :=
  (oB r).view.loc (c : Thread nD τ) ↦[(oB r).view.set]{fullShare} f
/-- Row block `r` of `c`'s result, whatever it holds. -/
def outAny (c : Dev nD) (r : Fin 4) : sProp 𝕄 := iprop(∃ f, outPts c r f)
/-- Column block `p` of what `c` staged. -/
def stgPts (c : Dev nD) (p : Fin 4) : sProp 𝕄 :=
  (gB p).view.loc (c : Thread nD τ) ↦[(gB p).view.set]{fullShare} staged X c
/-- The argument of `c`. -/
def argPts (c : Dev nD) : sProp 𝕄 :=
  (xM : Memref sig .tc .hbm S256x1024 .bf16).view.loc (c : Thread nD τ) ↦[(xM : Memref sig .tc .hbm S256x1024 .bf16).view.set]{fullShare} X c
/-- The fetched copy of it. -/
def fetPts (c : Dev nD) : sProp 𝕄 :=
  (vM : Memref sig .tc .vmem S256x1024 .bf16).view.loc (c : Thread nD τ) ↦[(vM : Memref sig .tc .vmem S256x1024 .bf16).view.set]{fullShare} fetched X c

/-- The row block of `prv d c`'s result that `c` is to write. -/
def barPay (c : Dev nD) (d : Fin 3) : sProp 𝕄 := outAny (prv d c) (row c)
/-- The column block sent, back. -/
def sndPay (j : Fin 3) (c : Dev nD) : sProp 𝕄 := stgPts X c (row (nxt j c))
/-- The row block received, holding the result. -/
def rcvPay (j : Fin 3) (c : Dev nD) : sProp 𝕄 := outPts c (row (prv j c)) (result X c)
/-- The own row block, holding the result, and the own column block, back. -/
def cpyPay (c : Dev nD) : sProp 𝕄 := iprop(outPts c (row c) (result X c) ∗ stgPts X c (row c))
/-- The fetched copy and the argument. -/
def inPay (c : Dev nD) : sProp 𝕄 := iprop(fetPts X c ∗ argPts X c)

/-- The payload on DMA semaphore `q`. -/
def dmaPay (c : Dev nD) (q : Fin 8) : sProp 𝕄 :=
  if h : q.val < 3 then sndPay X ⟨q.val, h⟩ c
  else if h' : q.val < 6 then rcvPay X ⟨q.val - 3, by omega⟩ c
  else if q.val = 6 then cpyPay X c
  else inPay X c

omit [FloatOps F] in
instance outPts_storable (c : Dev nD) (r : Fin 4) (f) : BI.Storable (upEmb : UEmb _ 𝕄) (outPts (F := F) c r f) := by unfold outPts; infer_instance
omit [FloatOps F] in
instance stgPts_storable (c : Dev nD) (p : Fin 4) : BI.Storable (upEmb : UEmb _ 𝕄) (stgPts X c p) := by unfold stgPts; infer_instance
omit [FloatOps F] in
instance argPts_storable (c : Dev nD) : BI.Storable (upEmb : UEmb _ 𝕄) (argPts X c) := by unfold argPts; infer_instance
omit [FloatOps F] in
instance fetPts_storable (c : Dev nD) : BI.Storable (upEmb : UEmb _ 𝕄) (fetPts X c) := by unfold fetPts; infer_instance
omit [FloatOps F] in
instance barPay_storable (c : Dev nD) (d : Fin 3) : BI.Storable (upEmb : UEmb _ 𝕄) (barPay (F := F) c d) := by
  unfold barPay outAny; infer_instance
omit [FloatOps F] in
instance dmaPay_storable (c : Dev nD) (q : Fin 8) : BI.Storable (upEmb : UEmb _ 𝕄) (dmaPay X c q) := by
  unfold dmaPay sndPay rcvPay cpyPay inPay
  (repeat' split) <;> infer_instance

/-! ## The schedule -/

/-- The duties of a semaphore: three on a barrier, one on a transfer's. -/
def dutiesOf : SemLoc sig → Finset (Fin 3)
  | .reg _ => Finset.univ
  | .dma _ => {0}
/-- What each duty pays. -/
def amountOf : SemLoc sig → ℕ
  | .reg _ => 1
  | .dma q => if q = inS then NX else NB
/-- What each duty hands over. -/
def payOf (c : Dev nD) : SemLoc sig → Fin 3 → sProp 𝕄
  | .reg _, d => barPay c d
  | .dma q, _ => dmaPay X c q

theorem amountOf_pos : ∀ s : SemLoc sig, 0 < amountOf s
  | .reg _ => Nat.one_pos
  | .dma q => by
    show 0 < if q = inS then NX else NB
    split
    · exact NX_pos
    · exact NB_pos

/-- The schedule: round 0 only. -/
def sched : Rounds.Schedule (GSem nD τ sig) (Fin 3) 𝕄 where
  duties g r := if r = 0 ∧ g.1.2 = .tc then dutiesOf g.2 else ∅
  unitless _ := False
  amount g _ _ := amountOf g.2
  payload g _ d := payOf X g.1.1 g.2 d
  amount_pos g _ _ _ := amountOf_pos g.2

omit [FloatOps F] in
instance sched_payload_storable (g : GSem nD τ sig) (r : ℕ) (d : Fin 3) :
    BI.Storable (upEmb : UEmb _ 𝕄) ((sched X).payload g r d) := by
  show BI.Storable upEmb (payOf X g.1.1 g.2 d)
  cases g.2 with
  | reg _ => exact barPay_storable _ _
  | dma q => exact dmaPay_storable X _ q

omit [FloatOps F] in
theorem duties_at (c : Dev nD) (s : SemLoc sig) : (sched X).duties ((c : Thread nD τ), s) 0 = dutiesOf s := by
  show (if 0 = 0 ∧ (c : Thread nD τ).2 = .tc then dutiesOf s else ∅) = _
  exact if_pos ⟨rfl, rfl⟩
omit [FloatOps F] in
theorem duties_later (g : GSem nD τ sig) : ∀ r, 1 ≤ r → (sched X).duties g r = ∅ :=
  fun r hr => if_neg fun h => by omega
omit [FloatOps F] in
theorem duty_bar (c : Dev nD) (d : Fin 3) : d ∈ (sched X).duties (barC c) 0 := by rw [duties_at]; exact Finset.mem_univ d
omit [FloatOps F] in
theorem duty_dma (c : Dev nD) (q : DmaSem sig) : (0 : Fin 3) ∈ (sched X).duties ((c : Thread nD τ), .dma q) 0 := by
  rw [duties_at]; exact Finset.mem_singleton_self _

omit [FloatOps F] in
theorem amount_bar (c : Dev nD) (d : Fin 3) : (sched X).amount (barC c) 0 d = 1 := rfl
theorem amountOf_snd (j : Fin 3) : amountOf (.dma (sndS j)) = NB := if_neg (by revert j; decide)
theorem amountOf_rcv (j : Fin 3) : amountOf (.dma (rcvS j)) = NB := if_neg (by revert j; decide)
theorem amountOf_cpy : amountOf (.dma cpyS) = NB := by
  show (if (cpyS : Fin 8) = inS then NX else NB) = NB
  exact if_neg (by decide)
theorem amountOf_in : amountOf (.dma inS) = NX := by
  show (if (inS : Fin 8) = inS then NX else NB) = NX
  exact if_pos rfl

omit [FloatOps F] in
theorem expect_bar (c : Dev nD) : (sched X).expect (barC c) 0 = 3 := by
  unfold Schedule.expect Schedule.amountOf
  rw [duties_at]
  exact (Finset.sum_congr rfl fun d _ => amount_bar X c d).trans (by decide)
omit [FloatOps F] in
theorem expect_dma (c : Dev nD) (q : DmaSem sig) : (sched X).expect ((c : Thread nD τ), .dma q) 0 = amountOf (.dma q) := by
  unfold Schedule.expect Schedule.amountOf
  rw [duties_at]
  exact Finset.sum_singleton _ _

omit [FloatOps F] in
theorem dmaPay_snd (j : Fin 3) (c : Dev nD) : dmaPay X c (sndS j) = sndPay X j c := dif_pos j.isLt
omit [FloatOps F] in
theorem dmaPay_rcv (j : Fin 3) (c : Dev nD) : dmaPay X c (rcvS j) = rcvPay X j c := by
  unfold dmaPay
  rw [dif_neg (by show ¬ j.val + 3 < 3; omega), dif_pos (show j.val + 3 < 6 by omega)]
  rfl
omit [FloatOps F] in
theorem dmaPay_cpy (c : Dev nD) : dmaPay X c cpyS = cpyPay X c := rfl
omit [FloatOps F] in
theorem dmaPay_in (c : Dev nD) : dmaPay X c inS = inPay X c := rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- All that a barrier's round hands over. -/
theorem rest_bar (c : Dev nD) :
    bigSep ((sched X).duties (barC c) 0 \ ∅) (fun d => (sched X).payload (barC c) 0 d) = bigSep Finset.univ fun d => barPay (F := F) c d := by
  rw [Finset.sdiff_empty, duties_at]
  rfl
omit [FloatOps F] in
/-- All that a transfer's round hands over. -/
theorem rest_dma (c : Dev nD) (q : DmaSem sig) :
    bigSep ((sched X).duties ((c : Thread nD τ), .dma q) 0 \ ∅) (fun d => (sched X).payload ((c : Thread nD τ), .dma q) 0 d) = dmaPay X c q := by
  rw [Finset.sdiff_empty, duties_at]
  exact bigSep_singleton

/-! ## What each device owes, and the levels -/

/-- The credit of `c`'s send `j` onto the receiver's semaphore; -/
abbrev dueRcv (j : Fin 3) (c : Dev nD) : CellTallies nD τ sig Unit := tallyAt (rcvC j (nxt j c)) () NB
/-- the unit of `c`'s signal `j`. -/
abbrev dueBar (j : Fin 3) (c : Dev nD) : CellTallies nD τ sig Unit := tallyAt (barC (nxt j c)) () 1

/-- What `c` owes from its signals on: the three sends; -/
def O₁ (c : Dev nD) : CellTallies nD τ sig Unit := ∑ j, dueRcv j c
/-- and at the launch: the three signals too, the first last. -/
def O₀ (c : Dev nD) : CellTallies nD τ sig Unit := O₁ c + dueBar 2 c + dueBar 1 c + dueBar 0 c

def L (g : GSem nD τ sig) : Finset Unit := if g.1.2 = .tc then {()} else ∅

/-- The level of a semaphore: receive above barrier above the rest. -/
def lvOf : SemLoc sig → ℕ
  | .reg _ => 1
  | .dma q => if 3 ≤ q.val ∧ q.val < 6 then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lvOf_rcv (j : Fin 3) : lvOf (.dma (rcvS j)) = 2 := if_pos (by revert j; decide)

theorem tally_pos {g g' : GSem nD τ sig} {u u' : Unit} {n : ℕ} (h : 0 < (tallyAt g' u' n : CellTallies nD τ sig Unit) g u) : g = g' := by
  rw [tallyAt_apply] at h
  by_contra hn
  rw [if_neg fun h' => hn h'.1] at h
  exact Nat.lt_irrefl 0 h

theorem O₁_eq (c : Dev nD) : O₁ c = dueRcv 0 c + dueRcv 1 c + dueRcv 2 c := Fin.sum_univ_three _

/-- Whatever is owed under `O₁` is owed to a receive semaphore. -/
theorem O₁_pos {c : Dev nD} {g : GSem nD τ sig} {u : Unit} (h : 0 < O₁ c g u) : ∃ j, g = rcvC j (nxt j c) := by
  rw [O₁_eq] at h
  rw [Pi.add_apply, Finsupp.add_apply, Pi.add_apply, Finsupp.add_apply] at h
  rcases Nat.eq_zero_or_pos ((dueRcv 0 c) g u) with h0 | h0
  · rcases Nat.eq_zero_or_pos ((dueRcv 1 c) g u) with h1 | h1
    · rw [h0, h1, Nat.zero_add] at h
      exact ⟨2, tally_pos h⟩
    · exact ⟨1, tally_pos h1⟩
  · exact ⟨0, tally_pos h0⟩

omit [FloatOps F] in
/-- A wait below the receive semaphores is allowed while the sends are owed. -/
theorem mayWait_sends (c : Dev nD) (sm : SemLoc sig) (h : lvOf sm ≤ 1) :
    (levAts L lv : sProp 𝕄) ⊢ MayWait (c : Thread nD τ) sm () (O₁ c) :=
  MayOwe.of_cut (L := L) (lev := lv) 1 (fun p hp => by rw [Finset.mem_singleton.mp hp, L_tc]; exact Finset.mem_singleton_self _)
    (fun g u hg => by obtain ⟨j, rfl⟩ := O₁_pos hg; rw [L_tc]; exact Finset.mem_singleton_self _)
    (fun p hp => by rw [Finset.mem_singleton.mp hp]; exact h)
    (fun g u hg => by
      obtain ⟨j, rfl⟩ := O₁_pos hg
      show 1 < lvOf (.dma (rcvS j))
      rw [lvOf_rcv]; decide)

/-! ## What every device knows -/

/-- The invariant of a cell, and that its round 0 has been reached. -/
def know (g : GSem nD τ sig) : sProp 𝕄 := iprop((∃ κ : ℕ, cellInv ER (sched X) κ g) ∗ reached ER g 0)
/-- That, of every cell of every device. -/
def records : sProp 𝕄 := bigSep Finset.univ fun ck : Dev nD × Fin 9 => know X (kcell ck)

omit [FloatOps F] in
instance know_persistent (g : GSem nD τ sig) : BI.Persistent (know X g) := by unfold know; infer_instance
omit [FloatOps F] in
instance records_persistent : BI.Persistent (records X) := by unfold records; infer_instance

omit [FloatOps F] in
theorem records_bar (c : Dev nD) : records X ⊢ know X (barC c) :=
  bigSep_elim (Φ := fun ck : Dev nD × Fin 9 => know X (kcell ck)) (Finset.mem_univ ((c, 0) : Dev nD × Fin 9))
omit [FloatOps F] in
theorem records_dma (c : Dev nD) (q : Fin 8) : records X ⊢ know X ((c : Thread nD τ), .dma q) :=
  bigSep_elim (Φ := fun ck : Dev nD × Fin 9 => know X (kcell ck)) (Finset.mem_univ ((c, q.succ) : Dev nD × Fin 9))

end Payloads

end Cert.Exchange

end
-- ==== Proof.Steps.lean ====
/-
One lemma for each kind of operation of the body: what it takes, what it gives back, and that the program then continues.
-/
module

public import proofs.«01_k».proof.Proof.Schedule

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the program has a variant to state. -/
abbrev 𝒱₀ : Variants := Variants.none

variable (X : Dev nD → (main_arg0 : Ref sig .tc).ty.Contents (Elt F))

/-- What device `c` owes, with whatever it has waited for so far. -/
def ow (c : Dev nD) (O : CellTallies nD τ sig Unit) : sProp 𝕄 := iprop(∃ W : Waits sig Unit, owes (c : Thread nD τ) O W)

/-- What every device knows: the cells' invariants and the levels. -/
def facts : sProp 𝕄 := iprop(records X ∗ levAts L lv)

omit [FloatOps F] in
instance facts_persistent : BI.Persistent (facts X) := by unfold facts; infer_instance

abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)} {k : PUnit → Prog (TpuEff nD τ sig (Elt F) Λ₀ .tc) α}

omit [FloatOps F] in
/-- What signal `j` of `c` hands over. -/
theorem barPay_nxt (c : Dev nD) (j : Fin 3) : (sched X).payload (barC (nxt j c)) 0 j = outAny c (row (nxt j c)) := by
  show barPay (nxt j c) j = _
  unfold barPay
  rw [prv_nxt]

/-- Signal `j` of `c`: it pays one unit on the barrier of `nxt j c`, with the row block of its own result that `nxt j c` writes. -/
theorem step_signal (c n : Dev nD) (j : Fin 3) (hn : n = nxt j c) {a : ℕ} (ha : a = 1) (O : CellTallies nD τ sig Unit) :
    iprop(facts X ∗ ow c (O + dueBar j c) ∗ dutyTok ER (barC (nxt j c)) 0 j ∗ outAny c (row (nxt j c)))
      ⊢ iprop((ow c O -∗ runs c (k ⟨⟩) Q) -∗ runs c (.op (.semSignal (Dev.tc n : Thread nD τ) barS a) k) Q) := by
  subst hn; subst ha
  unfold facts ow
  iintro ⟨⟨#HR, #HL⟩, ⟨%W, HO⟩, Ht, Hp⟩ Hk
  ihave HB := (records_bar X (nxt j c)) $$ HR
  unfold know
  icases HB with ⟨⟨%κ, #HI⟩, #Hr⟩
  iapply (Rounds.wp_signal 𝒱₀ ER (sched X) (c : Thread nD τ) none (dst := (nxt j c : Thread nD τ)) (κ := κ)
      (d := j) (duty_bar X _ j) (amount_bar X (nxt j c) j) () O rfl) $$ [HO Ht Hp]
  · isplitr; · iexact HI
    isplitl [HO]; · iexact HO
    isplitl [Ht]; · iexact Ht
    isplitl [Hp]
    · ihave Hp' := (Entails.of_eq (barPay_nxt X c j).symm) $$ Hp
      iexact Hp'
    iexact Hr
  iintro HO
  iapply Hk
  iexists W
  iexact HO

/-- A wait for the whole of the one round of a semaphore of `c`, after which the semaphore is at zero for good. -/
theorem step_wait (c : Dev nD) (sm : SemLoc sig) {w : TpuEff nD τ sig (Elt F) Λ₀ .tc PUnit} {a : ℕ}
    (hw : ∀ K : PUnit → sProp 𝕄, wpE (defs₀ (F := F)) 𝒱₀ (c : Thread nD τ) none Set.univ w K = waitSpec (c : Thread nD τ) Set.univ sm a K)
    (ha : a = (sched X).expect ((c : Thread nD τ), sm) 0) (O : CellTallies nD τ sig Unit)
    (hM : (levAts L lv : sProp 𝕄) ⊢ MayWait (c : Thread nD τ) sm () O)
    (hR : records X ⊢ know X ((c : Thread nD τ), sm)) :
    iprop(facts X ∗ ow c O ∗ cred (tallyAt ((c : Thread nD τ), sm) () a) ∗ atPos ER ((c : Thread nD τ), sm) 0 ∅ 0)
      ⊢ iprop(((ow c O ∗ semVal ((c : Thread nD τ), sm) 0
            ∗ bigSep ((sched X).duties ((c : Thread nD τ), sm) 0 \ ∅) (fun d => (sched X).payload ((c : Thread nD τ), sm) 0 d))
          -∗ runs c (k ⟨⟩) Q) -∗ runs c (.op w k) Q) := by
  unfold facts ow
  iintro ⟨⟨#HR, #HL⟩, ⟨%W, HO⟩, Hc, Hat⟩ Hk
  ihave HB := hR $$ HR
  unfold know
  icases HB with ⟨⟨%κ, #HI⟩, -⟩
  iapply (Rounds.wp_wait_rest_token 𝒱₀ ER (sched X) (c : Thread nD τ) none (κ := κ) hw (Set.mem_univ _) () (O := O) (W := W)
      (R := 0) (m := 0) (T := ∅) (by rw [Nat.zero_add]; exact ha)) $$ [Hc HO Hat]
  · isplitr; · iexact HI
    isplitl [Hc]; · iexact Hc
    isplitl [HO]; · iexact HO
    isplitr; · iapply hM; iexact HL
    iexact Hat
  iintro ⟨HO, Hat, -, Hp⟩
  imod (Rounds.cell_close ER (sched X) (Set.mem_univ κ) (fun h => h) (R := 0 + 1) (duties_later X ((c : Thread nD τ), sm))) $$ [Hat] with Hz
  · isplitr; · iexact HI
    iexact Hat
  iapply Hk
  isplitl [HO]; · iexists (insert (sm, ()) W); iexact HO
  isplitl [Hz]; · iexact Hz
  iexact Hp

/-- The barrier wait: the row blocks that `c` writes, on the three other devices. -/
theorem step_wait_bar (c : Dev nD) {a : ℕ} (ha : a = 3) :
    iprop(facts X ∗ ow c (O₁ c) ∗ cred (tallyAt (barC c) () 3) ∗ atPos ER (barC c) 0 ∅ 0)
      ⊢ iprop(((ow c (O₁ c) ∗ semVal (barC c) 0 ∗ bigSep Finset.univ fun d => barPay (F := F) c d) -∗ runs c (k ⟨⟩) Q)
          -∗ runs c (.op (.semWait barS a) k) Q) := by
  subst ha
  have h := step_wait (k := k) (Q := Q) X c (.reg barS) (wpE_semWait_eq 𝒱₀ (c : Thread nD τ) none Set.univ) (expect_bar X c).symm (O₁ c)
    (mayWait_sends c _ (by decide)) (records_bar X c)
  rw [rest_bar] at h
  exact h

/-- A wait on a transfer's semaphore, for what `c` then holds again or has received. -/
theorem step_wait_dma (c : Dev nD) (q : DmaSem sig) {sp sp' : Space} {s : Shape} {e : EltTy}
    {src : Memref sig .tc sp s e} {dst : Memref sig .tc sp' s e} {hsrc : src.view.WordExact} {hdst : dst.view.WordExact}
    (a : ℕ) (ha : dst.view.dmaCredit = a) (ha' : a = amountOf (.dma q))
    (O : CellTallies nD τ sig Unit) (hM : (levAts L lv : sProp 𝕄) ⊢ MayWait (c : Thread nD τ) (.dma q) () O) :
    iprop(facts X ∗ ow c O ∗ cred (tallyAt ((c : Thread nD τ), .dma q) () a) ∗ atPos ER ((c : Thread nD τ), .dma q) 0 ∅ 0)
      ⊢ iprop(((ow c O ∗ semVal ((c : Thread nD τ), .dma q) 0 ∗ dmaPay X c q) -∗ runs c (k ⟨⟩) Q)
          -∗ runs c (.op (.waitDma2 q src dst hsrc hdst) k) Q) := by
  subst ha
  have h := step_wait (k := k) (Q := Q) X c (.dma q) (wpE_waitDma2_eq (src := src) (dst := dst) (hsrc := hsrc) (hdst := hdst) 𝒱₀ (c : Thread nD τ) none Set.univ)
    (ha'.trans (expect_dma X c q).symm) O hM (records_dma X c q)
  rw [rest_dma] at h
  exact h

omit [FloatOps F] in
theorem mayWait_nothing (c : Dev nD) (sm : SemLoc sig) : (levAts L lv : sProp 𝕄) ⊢ MayWait (c : Thread nD τ) sm () 0 := by
  rw [MayWait_zero]
  iintro -
  iempintro

omit [FloatOps F] in
/-- A row block of a result after a landing holds what the result is to hold. -/
theorem landed_pts (c s : Dev nD) (hs : mate (row s) c = s) (f : (main_v1 : Ref sig .tc).ty.Contents (Elt F)) :
    ((oB (row s)).view.loc (c : Thread nD τ) ↦[(oB (row s)).view.set]{fullShare}
        ((oB (row s)).view.write (Elt F) f ((gB (row c)).view.read (Elt F) (staged X s)) Finset.univ))
      ⊢ (outPts c (row s) (result X c) : sProp 𝕄) := by
  unfold outPts
  exact Entails.of_eq (pointsTo_congr (landed X c s hs f))

/-- Every block's transfer has the same credit. -/
theorem amount_oB (r : Fin 4) (q : DmaSem sig) : (oB r).view.amount (.dma q) = NB := rfl

set_option maxHeartbeats 1000000 in
/-- Send `j` of `c`: the column block of `nxt j c` into row block `row c` of the result of `nxt j c`. -/
theorem step_send (c n : Dev nD) (j : Fin 3) (hn : n = nxt j c) (p r : Fin 4) (hp : p = row (nxt j c)) (hr : r = row c)
    {hsc : (oB r : Memref sig (Dev.tc n : Thread nD τ).2.kind .hbm S256x256 .bf16).view.ref.isScScratch = false}
    {hsrc : (gB p).view.WordExact} {hdst : (oB r).view.WordExact}
    {hsem : DmaTarget.Typed .vmem (.dma (rcvS j)) (.remote (Dev.tc n : Thread nD τ) (oB r) (.dma (sndS j)) hsc)}
    (O : CellTallies nD τ sig Unit) :
    iprop(facts X ∗ ow c (O + dueRcv j c) ∗ stgPts X c (row (nxt j c)) ∗ outAny (nxt j c) (row c)
        ∗ dutyTok ER (sndC j c) 0 0 ∗ dutyTok ER (rcvC j (nxt j c)) 0 0)
      ⊢ iprop(((ow c O ∗ cred (tallyAt (sndC j c) () NB)) -∗ runs c (k ⟨⟩) Q)
          -∗ runs c (.op (.enqueueDma (gB p) (.remote (Dev.tc n : Thread nD τ) (oB r) (.dma (sndS j)) hsc) (.dma (rcvS j)) hsrc hdst hsem) k) Q) := by
  subst hn; subst hp; subst hr
  unfold facts ow outAny
  iintro ⟨⟨#HR, #HL⟩, ⟨%W, HO⟩, Hs, ⟨%f, Hd⟩, Ht, Ht'⟩ Hk
  ihave HS := (records_dma X c (sndS j)) $$ HR
  ihave HV := (records_dma X (nxt j c) (rcvS j)) $$ HR
  unfold know stgPts outPts
  icases HS with ⟨⟨%κ, #HI⟩, #Hr⟩
  icases HV with ⟨⟨%κ', #HI'⟩, #Hr'⟩
  iapply (Rounds.wp_send_pointsTo 𝒱₀ ER (sched X) (c : Thread nD τ) none (κ₁ := κ) (κ₂ := κ')
      (c' := (nxt j c : Thread nD τ)) (src := gB (row (nxt j c))) (dst := oB (row c)) (r₁ := 0) (r₂ := 0) (d₁ := 0) (d₂ := 0) (fs := staged X c) (fd := f)
      (duty_dma X c (sndS j)) (duty_dma X (nxt j c) (rcvS j))
      () () NB (amount_oB (row c) _) (amountOf_snd j) (amountOf_rcv j) O rfl (W := W)
      (by
        show _ ⊢ dmaPay X c (sndS j)
        rw [dmaPay_snd]; unfold sndPay stgPts; exact BI.Entails.refl _)
      (by
        show _ ⊢ dmaPay X (nxt j c) (rcvS j)
        rw [dmaPay_rcv]; unfold rcvPay
        rw [prv_nxt]
        exact landed_pts X (nxt j c) c (mate_row_nxt j c) f)) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

set_option maxHeartbeats 1000000 in
/-- The copy of `c` within itself: its own column block into its own row block. The offsets are given by what they are equal to. -/
theorem step_copy (c : Dev nD) (off off' : Fin 2 → Nat) (ho : off = ![256 * (row c).val, 0]) (ho' : off' = ![0, 256 * (row c).val])
    {hb : ∀ a, off a + S256x256.size a ≤ S1024x256.size a} {hb' : ∀ a, off' a + S256x256.size a ≤ S256x1024.size a}
    {hu : ∀ a, (Rect.unit (s := S1024x256) off S256x256.size hb).stride a = 1}
    {hu' : ∀ a, (Rect.unit (s := S256x1024) off' S256x256.size hb').stride a = 1}
    {hsrc : (gM.slice (Rect.unit (s := S256x1024) off' S256x256.size hb') hu').view.WordExact}
    {hdst : (oM.slice (Rect.unit (s := S1024x256) off S256x256.size hb) hu).view.WordExact}
    {hsem : DmaTarget.Typed (nD := nD) .vmem (.dma cpyS) (.here (p := .tc) (oM.slice (Rect.unit (s := S1024x256) off S256x256.size hb) hu))} :
    iprop(facts X ∗ stgPts X c (row c) ∗ outAny c (row c) ∗ dutyTok ER (cpyC c) 0 0)
      ⊢ iprop((cred (tallyAt (cpyC c) () NB) -∗ runs c (k ⟨⟩) Q)
          -∗ runs c (.op (.enqueueDma (gM.slice (Rect.unit (s := S256x1024) off' S256x256.size hb') hu')
              (.here (oM.slice (Rect.unit (s := S1024x256) off S256x256.size hb) hu)) (.dma cpyS) hsrc hdst hsem) k) Q) := by
  subst ho; subst ho'
  unfold facts outAny
  iintro ⟨⟨#HR, #HL⟩, Hs, ⟨%f, Hd⟩, Ht⟩ Hk
  ihave HS := (records_dma X c cpyS) $$ HR
  unfold know stgPts outPts
  icases HS with ⟨⟨%κ, #HI⟩, #Hr⟩
  iapply (Rounds.wp_copy_pointsTo 𝒱₀ ER (sched X) (c : Thread nD τ) none (κ := κ) (r := 0) (d := 0)
      (src := gB (row c)) (dst := oB (row c)) (fs := staged X c) (fd := f) (duty_dma X c cpyS) () NB (amount_oB (row c) _) amountOf_cpy
      (by
        show _ ⊢ dmaPay X c cpyS
        rw [dmaPay_cpy]; unfold cpyPay
        refine BIClass.sep_mono (landed_pts X c c (mate_row c) f) ?_
        unfold stgPts; exact BI.Entails.refl _)) $$ [Hs Hd Ht]
  · isplitr; · iexact HI
    isplitl [Hs]; · iexact Hs
    isplitl [Hd]; · iexact Hd
    isplitl [Ht]; · iexact Ht
    iexact Hr
  iexact Hk

/-- The fetch of the argument. -/
theorem step_fetch (c : Dev nD) {hsrc : (xM : Memref sig .tc .hbm S256x1024 .bf16).view.WordExact}
    {hdst : (vM : Memref sig .tc .vmem S256x1024 .bf16).view.WordExact}
    {hsem : DmaTarget.Typed (nD := nD) .hbm (.dma inS) (.here (p := .tc) (vM : Memref sig .tc .vmem S256x1024 .bf16))}
    (f : (cc0_scratch0 : Ref sig .tc).ty.Contents (Elt F)) :
    iprop(facts X ∗ argPts X c ∗ ((vM : Memref sig .tc .vmem S256x1024 .bf16).view.loc (c : Thread nD τ) ↦[(vM : Memref sig .tc .vmem S256x1024 .bf16).view.set]{fullShare} f)
        ∗ dutyTok ER (inC c) 0 0)
      ⊢ iprop((cred (tallyAt (inC c) () NX) -∗ runs c (k ⟨⟩) Q)
          -∗ runs c (.op (.enqueueDma xM (.here vM) (.dma inS) hsrc hdst hsem) k) Q) := by
  unfold facts
  iintro ⟨⟨#HR, #HL⟩, Hs, Hd, Ht⟩ Hk
  ihave HS := (records_dma X c inS) $$ HR
  unfold know argPts
  icases HS with ⟨⟨%κ, #HI⟩, #Hr⟩
  iapply (Rounds.wp_copy_pointsTo 𝒱₀ ER (sched X) (c : Thread nD τ) none (κ := κ) (r := 0) (d := 0)
      (fs := X c) (fd := f) (duty_dma X c inS) () NX rfl amountOf_in
      (by
        show _ ⊢ dmaPay X c inS
        rw [dmaPay_in]; unfold inPay fetPts argPts
        refine BIClass.sep_mono (Entails.of_eq (pointsTo_congr fun i _ => ?_)) (BI.Entails.refl _)
        show (Memref.whole cc0_scratch0 : Memref sig .tc .vmem S256x1024 .bf16).view.write (Elt F) f _ Finset.univ i = fetched X c i
        rw [View.write_whole_univ, View.read_whole]
        rfl)) $$ [Hs Hd Ht]
  · isplitr; · iexact HI
    isplitl [Hs]; · iexact Hs
    isplitl [Hd]; · iexact Hd
    isplitl [Ht]; · iexact Ht
    iexact Hr
  iexact Hk

end Cert.Exchange

end
-- ==== Proof.Talk.lean ====
/-
The exchange between the devices: three sends, three receives, and the waits for the sends to be done.

The program holds it four times, once for each place of a device in its group. The four are one program (`talk`) at different
places, send orders and targets; it is proved once.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program -/

/-- The blocks are made of whole words. -/
theorem gB_words : ∀ p : Fin 4, (gB p).view.WordExact
  | 0 => (Memref.isWhole_whole cc0_scratch1).wordExact_slice rfl _ wordsbf16_S256x1024_S256x256_0_0
  | 1 => (Memref.isWhole_whole cc0_scratch1).wordExact_slice rfl _ wordsbf16_S256x1024_S256x256_0_256
  | 2 => (Memref.isWhole_whole cc0_scratch1).wordExact_slice rfl _ wordsbf16_S256x1024_S256x256_0_512
  | 3 => (Memref.isWhole_whole cc0_scratch1).wordExact_slice rfl _ wordsbf16_S256x1024_S256x256_0_768
theorem oB_words : ∀ r : Fin 4, (oB r).view.WordExact
  | 0 => (Memref.isWhole_whole main_v1).wordExact_slice rfl _ wordsbf16_S1024x256_S256x256_0_0
  | 1 => (Memref.isWhole_whole main_v1).wordExact_slice rfl _ wordsbf16_S1024x256_S256x256_256_0
  | 2 => (Memref.isWhole_whole main_v1).wordExact_slice rfl _ wordsbf16_S1024x256_S256x256_512_0
  | 3 => (Memref.isWhole_whole main_v1).wordExact_slice rfl _ wordsbf16_S1024x256_S256x256_768_0

/-- Send `j`: column block `p` into row block `r` of device `n`. -/
def send (j : Fin 3) (p r : Fin 4) (n : Dev nD) : Prog (TpuEff nD τ sig (Elt F) Λ₀ .tc) PUnit :=
  Prog.lift (.enqueueDma (gB p) (.remote (Dev.tc n : Thread nD τ) (oB r) (.dma (sndS j))) (.dma (rcvS j)) (gB_words p) (oB_words r)
    ⟨⟨rfl, Or.inl rfl⟩, trivial⟩)
/-- The wait for what lands in row block `s`. -/
def receive (j : Fin 3) (s : Fin 4) : Prog (TpuEff nD τ sig (Elt F) Λ₀ .tc) PUnit :=
  Prog.lift (.waitDma2 (rcvS j) (oB s) (oB s) (oB_words s) (oB_words s))
/-- The wait for send `j` of column block `p` to be done. -/
def sent (j : Fin 3) (p r : Fin 4) : Prog (TpuEff nD τ sig (Elt F) Λ₀ .tc) PUnit :=
  Prog.lift (.waitDma2 (sndS j) (oB r) (gB p) (oB_words r) (gB_words p))

/-- The exchange of a device at place `r`: its `i`-th send is send `q i`, to device `n i` at place `p i`; receive `j` comes
    from place `s j`. -/
def talk (r : Fin 4) (q : Fin 3 → Fin 3) (p s : Fin 3 → Fin 4) (n : Fin 3 → Dev nD) : Prog (TpuEff nD τ sig (Elt F) Λ₀ .tc) PUnit := do
  send (q 0) (p 0) r (n 0)
  send (q 1) (p 1) r (n 1)
  send (q 2) (p 2) r (n 2)
  receive 0 (s 0)
  receive 1 (s 1)
  receive 2 (s 2)
  sent (q 0) (p 0) r
  sent (q 1) (p 1) r
  sent (q 2) (p 2) r

/-! ## Its proof -/

omit [FloatOps F] in
/-- A family over the three sends, listed in any order. -/
theorem bigSep_order {q : Fin 3 → Fin 3} (hq : Function.Bijective q) (Φ : Fin 3 → sProp 𝕄) :
    bigSep Finset.univ Φ = iprop(Φ (q 0) ∗ Φ (q 1) ∗ Φ (q 2)) :=
  (bigSep_univ_equiv (Equiv.ofBijective q hq) Φ).trans (bigSep_fin3 _)

/-- What the sends owe, in any order, the first peeled first. -/
theorem O₁_order {q : Fin 3 → Fin 3} (hq : Function.Bijective q) (c : Dev nD) :
    O₁ c = 0 + dueRcv (q 2) c + dueRcv (q 1) c + dueRcv (q 0) c := by
  rw [show O₁ c = ∑ j, dueRcv j c from rfl, ← hq.sum_comp (fun j => dueRcv j c), Fin.sum_univ_three, zero_add,
    add_comm (dueRcv (q 0) c), add_comm _ (dueRcv (q 2) c), ← add_assoc]

variable (X : Dev nD → (main_arg0 : Ref sig .tc).ty.Contents (Elt F))

/-- What send `j` takes: its column block, the row block it writes on its target, and its two duties. -/
def sendRes (c : Dev nD) (j : Fin 3) : sProp 𝕄 :=
  iprop(stgPts X c (row (nxt j c)) ∗ outAny (nxt j c) (row c) ∗ dutyTok ER (sndC j c) 0 0 ∗ dutyTok ER (rcvC j (nxt j c)) 0 0)
/-- What receive `j` takes. -/
def recvRes (c : Dev nD) (j : Fin 3) : sProp 𝕄 := iprop(cred (tallyAt (rcvC j c) () NB) ∗ atPos ER (rcvC j c) 0 ∅ 0)
/-- What a send leaves when it is done, -/
def sentRes (c : Dev nD) (j : Fin 3) : sProp 𝕄 := iprop(semVal (sndC j c) 0 ∗ stgPts X c (row (nxt j c)))
/-- and a receive. -/
def gotRes (c : Dev nD) (j : Fin 3) : sProp 𝕄 := iprop(semVal (rcvC j c) 0 ∗ outPts c (row (prv j c)) (result X c))

/-- What the exchange takes; -/
def talkPre (c : Dev nD) : sProp 𝕄 :=
  iprop(ow c (O₁ c) ∗ (bigSep Finset.univ fun j => sendRes X c j) ∗ (bigSep Finset.univ fun j => atPos ER (sndC j c) 0 ∅ 0)
    ∗ bigSep Finset.univ fun j => recvRes c j)
/-- and what it leaves. -/
def talkPost (c : Dev nD) : sProp 𝕄 :=
  iprop(ow c 0 ∗ (bigSep Finset.univ fun j => sentRes X c j) ∗ bigSep Finset.univ fun j => gotRes X c j)

variable {α : Type} {Q : α → sProp (MT nD τ sig Unit (Elt F) ℕ UU ℕ)} {k : PUnit → Prog (TpuEff nD τ sig (Elt F) Λ₀ .tc) α}

/-- One receive of the exchange. -/
theorem step_receive (c : Dev nD) (j : Fin 3) {s : Fin 4} {hsrc : (oB s).view.WordExact} {hdst : (oB s).view.WordExact} :
    iprop(facts X ∗ ow c 0 ∗ recvRes c j)
      ⊢ iprop(((ow c 0 ∗ gotRes X c j) -∗ runs c (k ⟨⟩) Q) -∗ runs c (.op (.waitDma2 (rcvS j) (oB s) (oB s) hsrc hdst) k) Q) := by
  have h := step_wait_dma (k := k) (Q := Q) X c (rcvS j) (src := oB s) (dst := oB s) (hsrc := hsrc) (hdst := hdst) NB rfl (amountOf_rcv j).symm 0
    (mayWait_nothing c _)
  rw [dmaPay_rcv] at h
  exact h

/-- One wait for a send. -/
theorem step_sent (c : Dev nD) (j : Fin 3) {p r : Fin 4} {hsrc : (oB r).view.WordExact} {hdst : (gB p).view.WordExact} :
    iprop(facts X ∗ ow c 0 ∗ cred (tallyAt (sndC j c) () NB) ∗ atPos ER (sndC j c) 0 ∅ 0)
      ⊢ iprop(((ow c 0 ∗ sentRes X c j) -∗ runs c (k ⟨⟩) Q) -∗ runs c (.op (.waitDma2 (sndS j) (oB r) (gB p) hsrc hdst) k) Q) := by
  have h := step_wait_dma (k := k) (Q := Q) X c (sndS j) (src := oB r) (dst := gB p) (hsrc := hsrc) (hdst := hdst) NB rfl (amountOf_snd j).symm 0
    (mayWait_nothing c _)
  rw [dmaPay_snd] at h
  exact h

/-- The exchange, at any place, in any order of the sends. -/
theorem talk_run (c : Dev nD) (r : Fin 4) (q : Fin 3 → Fin 3) (p s : Fin 3 → Fin 4) (n : Fin 3 → Dev nD) (hr : r = row c)
    (hq : Function.Bijective q) (hp : ∀ i, p i = row (nxt (q i) c)) (hn : ∀ i, n i = nxt (q i) c) :
    iprop(facts X ∗ talkPre X c)
      ⊢ iprop((talkPost X c -∗ runs c (k ⟨⟩) Q) -∗ runs c (talk r q p s n >>= k) Q) := by
  unfold talk send receive sent
  simp only [Prog.lift, Prog.bind_op, Prog.bind_ret, Prog.pure_eq_ret]
  unfold talkPre talkPost
  rw [O₁_order hq c, bigSep_order hq (fun j => sendRes X c j), bigSep_order hq (fun j => atPos ER (sndC j c) 0 ∅ 0),
    bigSep_order hq (fun j => sentRes X c j), bigSep_fin3, bigSep_fin3]
  unfold sendRes
  iintro ⟨#HF, HO, ⟨⟨Hs0, Hd0, Ht0, Hu0⟩, ⟨Hs1, Hd1, Ht1, Hu1⟩, ⟨Hs2, Hd2, Ht2, Hu2⟩⟩, ⟨Ha0, Ha1, Ha2⟩, Hr0, Hr1, Hr2⟩ Hk
  iapply (step_send X c (n 0) (q 0) (hn 0) (p 0) r (hp 0) hr (0 + dueRcv (q 2) c + dueRcv (q 1) c)) $$ [HO Hs0 Hd0 Ht0 Hu0]
  · isplitr; · iexact HF
    isplitl [HO]; · iexact HO
    isplitl [Hs0]; · iexact Hs0
    isplitl [Hd0]; · iexact Hd0
    isplitl [Ht0] <;> iassumption
  iintro ⟨HO, Hc0⟩
  iapply (step_send X c (n 1) (q 1) (hn 1) (p 1) r (hp 1) hr (0 + dueRcv (q 2) c)) $$ [HO Hs1 Hd1 Ht1 Hu1]
  · isplitr; · iexact HF
    isplitl [HO]; · iexact HO
    isplitl [Hs1]; · iexact Hs1
    isplitl [Hd1]; · iexact Hd1
    isplitl [Ht1] <;> iassumption
  iintro ⟨HO, Hc1⟩
  iapply (step_send X c (n 2) (q 2) (hn 2) (p 2) r (hp 2) hr 0) $$ [HO Hs2 Hd2 Ht2 Hu2]
  · isplitr; · iexact HF
    isplitl [HO]; · iexact HO
    isplitl [Hs2]; · iexact Hs2
    isplitl [Hd2]; · iexact Hd2
    isplitl [Ht2] <;> iassumption
  iintro ⟨HO, Hc2⟩
  iapply (step_receive X c 0) $$ [HO Hr0]
  · isplitr; · iexact HF
    isplitl [HO] <;> iassumption
  iintro ⟨HO, Hg0⟩
  iapply (step_receive X c 1) $$ [HO Hr1]
  · isplitr; · iexact HF
    isplitl [HO] <;> iassumption
  iintro ⟨HO, Hg1⟩
  iapply (step_receive X c 2) $$ [HO Hr2]
  · isplitr; · iexact HF
    isplitl [HO] <;> iassumption
  iintro ⟨HO, Hg2⟩
  iapply (step_sent X c (q 0)) $$ [HO Hc0 Ha0]
  · isplitr; · iexact HF
    isplitl [HO]; · iexact HO
    isplitl [Hc0] <;> iassumption
  iintro ⟨HO, Hb0⟩
  iapply (step_sent X c (q 1)) $$ [HO Hc1 Ha1]
  · isplitr; · iexact HF
    isplitl [HO]; · iexact HO
    isplitl [Hc1] <;> iassumption
  iintro ⟨HO, Hb1⟩
  iapply (step_sent X c (q 2)) $$ [HO Hc2 Ha2]
  · isplitr; · iexact HF
    isplitl [HO]; · iexact HO
    isplitl [Hc2] <;> iassumption
  iintro ⟨HO, Hb2⟩
  iapply Hk
  isplitl [HO]; · iexact HO
  isplitl [Hb0 Hb1 Hb2]
  · isplitl [Hb0]; · iexact Hb0
    isplitl [Hb1] <;> iassumption
  isplitl [Hg0]; · iexact Hg0
  isplitl [Hg1] <;> iassumption

end Cert.Exchange

end
-- ==== Proof.Body.lean ====
/-
The body of the kernel on one device, from what it holds at the start to what it holds at the end.
-/
module

public import proofs.«01_k».proof.Proof.Talk

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program -/

theorem xWords : (xM : Memref sig .tc .hbm S256x1024 .bf16).view.WordExact := (Memref.isWhole_whole main_arg0).wordExact
theorem vWords : (vM : Memref sig .tc .vmem S256x1024 .bf16).view.WordExact := (Memref.isWhole_whole cc0_scratch0).wordExact

/-- The rectangle of a whole staged block. -/
abbrev rW : Rect S256x1024 := Rect.unit (s := S256x1024) ![0, 0] S256x1024.size inb_S256x1024_S256x1024_0_0

/-- The row block and the column block of device `c` itself, as the program names them. -/
abbrev oOwn (c : Dev nD) : Memref sig .tc .hbm S256x256 .bf16 :=
  oM.slice (Rect.unit (s := S1024x256) (k0_off1 c) S256x256.size (k0_off1_inb c)) (fun _ => rfl)
abbrev gOwn (c : Dev nD) : Memref sig .tc .vmem S256x256 .bf16 :=
  gM.slice (Rect.unit (s := S256x1024) (k0_off2 c) S256x256.size (k0_off2_inb c)) (fun _ => rfl)
theorem oOwn_words (c : Dev nD) : (oOwn c).view.WordExact :=
  (Memref.isWhole_whole main_v1).wordExact_slice rfl _ (k0_off1_wordsbf16 c)
theorem gOwn_words (c : Dev nD) : (gOwn c).view.WordExact :=
  (Memref.isWhole_whole cc0_scratch1).wordExact_slice rfl _ (k0_off2_wordsbf16 c)

/-- The exchange at places 0 to 3: nothing on a device at another place. Then the rest `k`. -/
def at0 (c : Dev nD) {α : Type} (k : PUnit → Prog (TpuEff nD τ sig (Elt F) Λ₀ .tc) α) : Prog (TpuEff nD τ sig (Elt F) Λ₀ .tc) α :=
  if h : k0_cond1 c = 1#1 then
    talk 0 ![2, 1, 0] ![3, 2, 1] ![3, 2, 1] ![⟨k0_dev4 c, k0_dev4_lt c h⟩, ⟨k0_dev5 c, k0_dev5_lt c h⟩, ⟨k0_dev6 c, k0_dev6_lt c h⟩] >>= k
  else k ⟨⟩
def at1 (c : Dev nD) {α : Type} (k : PUnit → Prog (TpuEff nD τ sig (Elt F) Λ₀ .tc) α) : Prog (TpuEff nD τ sig (Elt F) Λ₀ .tc) α :=
  if h : k0_cond2 c = 1#1 then
    talk 1 ![1, 2, 0] ![3, 0, 2] ![0, 3, 2] ![⟨k0_dev7 c, k0_dev7_lt c h⟩, ⟨k0_dev8 c, k0_dev8_lt c h⟩, ⟨k0_dev9 c, k0_dev9_lt c h⟩] >>= k
  else k ⟨⟩
def at2 (c : Dev nD) {α : Type} (k : PUnit → Prog (TpuEff nD τ sig (Elt F) Λ₀ .tc) α) : Prog (TpuEff nD τ sig (Elt F) Λ₀ .tc) α :=
  if h : k0_cond3 c = 1#1 then
    talk 2 ![1, 2, 0] ![0, 1, 3] ![1, 0, 3] ![⟨k0_dev10 c, k0_dev10_lt c h⟩, ⟨k0_dev11 c, k0_dev11_lt c h⟩, ⟨k0_dev12 c, k0_dev12_lt c h⟩] >>= k
  else k ⟨⟩
def at3 (c : Dev nD) {α : Type} (k : PUnit → Prog (TpuEff nD τ sig (Elt F) Λ₀ .tc) α) : Prog (TpuEff nD τ sig (Elt F) Λ₀ .tc) α :=
  if h : k0_cond4 c = 1#1 then
    talk 3 ![0, 1, 2] ![0, 1, 2] ![2, 1, 0] ![⟨k0_dev13 c, k0_dev13_lt c h⟩, ⟨k0_dev14 c, k0_dev14_lt c h⟩, ⟨k0_dev15 c, k0_dev15_lt c h⟩] >>= k
  else k ⟨⟩

/-- The body, with its blocks and its exchange under their names here. -/
def body : Prog (TpuEff nD τ sig (Elt F) Λ₀ .tc) PUnit := do
  let c ← Prog.lift .deviceId
  Prog.lift (.enqueueDma xM (.here vM) (.dma inS) xWords vWords ⟨Or.inl rfl, trivial⟩)
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  Prog.lift (.waitDma2 inS xM vM xWords vWords)
  let v : Vec F S256x1024 .bf16 ← Prog.lift (.load vM rW.toLoadRect (View.loadsAt_vmem h_S256x1024))
  let _ : Vec F S256x1024 .bf16 ← Prog.lift (.load gM rW.toLoadRect (View.loadsAt_vmem h_S256x1024))
  Prog.lift (.store gM rW (k0_pay1 v) Finset.univ (View.stores_vmem h_S256x1024
    ((Memref.isWhole_whole cc0_scratch1).storeExact_slice rfl _ packedbf16_S256x1024_S256x1024_0_0) (fun _ => rfl)) (.inl rfl))
  Prog.lift (.enqueueDma (gOwn c) (.here (oOwn c)) (.dma cpyS) (gOwn_words c) (oOwn_words c) ⟨Or.inl rfl, trivial⟩)
  semWaitWord barS 3#32
  at0 c fun _ => at1 c fun _ => at2 c fun _ => at3 c fun _ =>
    Prog.lift (.waitDma2 cpyS (gOwn c) (oOwn c) (gOwn_words c) (oOwn_words c))

/-- The kernel's body is this. -/
theorem body_eq : cc0_body (F := F) (Memref.whole main_arg0) (Memref.isWhole_whole _) (Memref.whole main_v1) (Memref.isWhole_whole _)
    (Memref.whole cc0_scratch0) (Memref.isWhole_whole _) (Memref.whole cc0_scratch1) (Memref.isWhole_whole _)
    cc0_scratch2 cc0_scratch3 cc0_scratch4 cc0_scratch5 = body := by
  rw [cc0_body_eq_skeleton]
  rfl

/-! ## The exchange, whichever place the device has -/

theorem cond1_iff : ∀ c : Dev nD, k0_cond1 c = 1#1 ↔ row c = 0 := by decide +kernel
theorem cond2_iff : ∀ c : Dev nD, k0_cond2 c = 1#1 ↔ row c = 1 := by decide +kernel
theorem cond3_iff : ∀ c : Dev nD, k0_cond3 c = 1#1 ↔ row c = 2 := by decide +kernel
theorem cond4_iff : ∀ c : Dev nD, k0_cond4 c = 1#1 ↔ row c = 3 := by decide +kernel

theorem dev1_eq : ∀ c : Dev nD, (⟨k0_dev1 c, k0_dev1_lt c⟩ : Dev nD) = nxt 0 c := by decide +kernel
theorem dev2_eq : ∀ c : Dev nD, (⟨k0_dev2 c, k0_dev2_lt c⟩ : Dev nD) = nxt 1 c := by decide +kernel
theorem dev3_eq : ∀ c : Dev nD, (⟨k0_dev3 c, k0_dev3_lt c⟩ : Dev nD) = nxt 2 c := by decide +kernel

/-- The targets of the sends at each place. -/
theorem devs0 : ∀ c : Dev nD, row c = 0 → k0_dev4 c = (nxt 2 c).val ∧ k0_dev5 c = (nxt 1 c).val ∧ k0_dev6 c = (nxt 0 c).val := by decide +kernel
theorem devs1 : ∀ c : Dev nD, row c = 1 → k0_dev7 c = (nxt 1 c).val ∧ k0_dev8 c = (nxt 2 c).val ∧ k0_dev9 c = (nxt 0 c).val := by decide +kernel
theorem devs2 : ∀ c : Dev nD, row c = 2 → k0_dev10 c = (nxt 1 c).val ∧ k0_dev11 c = (nxt 2 c).val ∧ k0_dev12 c = (nxt 0 c).val := by decide +kernel
theorem devs3 : ∀ c : Dev nD, row c = 3 → k0_dev13 c = (nxt 0 c).val ∧ k0_dev14 c = (nxt 1 c).val ∧ k0_dev15 c = (nxt 2 c).val := by decide +kernel

/-- The places of those targets. -/
theorem places0 : ∀ c : Dev nD, row c = 0 → ∀ i, (![3, 2, 1] : Fin 3 → Fin 4) i = row (nxt ((![2, 1, 0] : Fin 3 → Fin 3) i) c) := by decide +kernel
theorem places1 : ∀ c : Dev nD, row c = 1 → ∀ i, (![3, 0, 2] : Fin 3 → Fin 4) i = row (nxt ((![1, 2, 0] : Fin 3 → Fin 3) i) c) := by decide +kernel
theorem places2 : ∀ c : Dev nD, row c = 2 → ∀ i, (![0, 1, 3] : Fin 3 → Fin 4) i = row (nxt ((![1, 2, 0] : Fin 3 → Fin 3) i) c) := by decide +kernel
theorem places3 : ∀ c : Dev nD, row c = 3 → ∀ i, (![0, 1, 2] : Fin 3 → Fin 4) i = row (nxt ((![0, 1, 2] : Fin 3 → Fin 3) i) c) := by decide +kernel

/-- Three devices are the targets of three sends when their numbers are. -/
theorem targets (c : Dev nD) (q : Fin 3 → Fin 3) {a b d : Nat} (ha : a < nD) (hb : b < nD) (hd : d < nD)
    (h : a = (nxt (q 0) c).val ∧ b = (nxt (q 1) c).val ∧ d = (nxt (q 2) c).val) :
    ∀ i, (![⟨a, ha⟩, ⟨b, hb⟩, ⟨d, hd⟩] : Fin 3 → Dev nD) i = nxt (q i) c
  | 0 => Fin.ext h.1
  | 1 => Fin.ext h.2.1
  | 2 => Fin.ext h.2.2

variable (X : Dev nD → (main_arg0 : Ref sig .tc).ty.Contents (Elt F))
variable {α : Type} {Q : α → sProp (MT nD τ sig Unit (Elt F) ℕ UU ℕ)} {k : PUnit → Prog (TpuEff nD τ sig (Elt F) Λ₀ .tc) α}

/-- The exchange: on every device exactly one of the four is run. -/
theorem exchange_run (c : Dev nD) :
    iprop(facts X ∗ talkPre X c)
      ⊢ iprop((talkPost X c -∗ runs c (k ⟨⟩) Q)
          -∗ runs c (at0 c fun _ => at1 c fun _ => at2 c fun _ => at3 c k) Q) := by
  unfold at0 at1 at2 at3
  have hz : row c = 0 ∨ row c = 1 ∨ row c = 2 ∨ row c = 3 := by revert c; decide
  rcases hz with hz | hz | hz | hz
  · rw [dif_pos ((cond1_iff c).mpr hz), dif_neg (by rw [cond2_iff, hz]; decide), dif_neg (by rw [cond3_iff, hz]; decide),
      dif_neg (by rw [cond4_iff, hz]; decide)]
    exact talk_run X c 0 ![2, 1, 0] ![3, 2, 1] ![3, 2, 1] _ hz.symm (by decide) (places0 c hz) (targets c _ _ _ _ (devs0 c hz))
  · rw [dif_neg (by rw [cond1_iff, hz]; decide), dif_pos ((cond2_iff c).mpr hz), dif_neg (by rw [cond3_iff, hz]; decide),
      dif_neg (by rw [cond4_iff, hz]; decide)]
    exact talk_run X c 1 ![1, 2, 0] ![3, 0, 2] ![0, 3, 2] _ hz.symm (by decide) (places1 c hz) (targets c _ _ _ _ (devs1 c hz))
  · rw [dif_neg (by rw [cond1_iff, hz]; decide), dif_neg (by rw [cond2_iff, hz]; decide), dif_pos ((cond3_iff c).mpr hz),
      dif_neg (by rw [cond4_iff, hz]; decide)]
    exact talk_run X c 2 ![1, 2, 0] ![0, 1, 3] ![1, 0, 3] _ hz.symm (by decide) (places2 c hz) (targets c _ _ _ _ (devs2 c hz))
  · rw [dif_neg (by rw [cond1_iff, hz]; decide), dif_neg (by rw [cond2_iff, hz]; decide), dif_neg (by rw [cond3_iff, hz]; decide),
      dif_pos ((cond4_iff c).mpr hz)]
    exact talk_run X c 3 ![0, 1, 2] ![0, 1, 2] ![2, 1, 0] _ hz.symm (by decide) (places3 c hz) (targets c _ _ _ _ (devs3 c hz))

/-! ## Cutting the buffers into blocks -/

theorem list_nxt : ∀ c : Dev nD, (Finset.univ : Finset (Fin 4)) = [row c, row (nxt 0 c), row (nxt 1 c), row (nxt 2 c)].toFinset
    ∧ [row c, row (nxt 0 c), row (nxt 1 c), row (nxt 2 c)].Nodup := by decide +kernel
theorem list_prv : ∀ c : Dev nD, (Finset.univ : Finset (Fin 4)) = [row c, row (prv 0 c), row (prv 1 c), row (prv 2 c)].toFinset
    ∧ [row c, row (prv 0 c), row (prv 1 c), row (prv 2 c)].Nodup := by decide +kernel

omit [FloatOps F] in
/-- A family over the four places: the device's own and those it sends to; -/
theorem bigSep_nxt (c : Dev nD) (Φ : Fin 4 → sProp 𝕄) :
    bigSep Finset.univ Φ = iprop(Φ (row c) ∗ bigSep Finset.univ fun j : Fin 3 => Φ (row (nxt j c))) := by
  rw [bigSep_fin3, bigSep_univ_eq_bigSepL _ (list_nxt c).1 (list_nxt c).2]
  rfl
omit [FloatOps F] in
/-- also its own and those it receives from. -/
theorem bigSep_prv (c : Dev nD) (Φ : Fin 4 → sProp 𝕄) :
    bigSep Finset.univ Φ = iprop(Φ (row c) ∗ bigSep Finset.univ fun j : Fin 3 => Φ (row (prv j c))) := by
  rw [bigSep_fin3, bigSep_univ_eq_bigSepL _ (list_prv c).1 (list_prv c).2]
  rfl

/-- A whole result buffer; -/
def outW (c : Dev nD) (f : (main_v1 : Ref sig .tc).ty.Contents (Elt F)) : sProp 𝕄 :=
  (oM : Memref sig .tc .hbm S1024x256 .bf16).view.loc (c : Thread nD τ) ↦[Finset.univ]{fullShare} f
/-- a whole staging buffer. -/
def stgW (c : Dev nD) (f : (cc0_scratch1 : Ref sig .tc).ty.Contents (Elt F)) : sProp 𝕄 :=
  (gM : Memref sig .tc .vmem S256x1024 .bf16).view.loc (c : Thread nD τ) ↦[Finset.univ]{fullShare} f
/-- a whole fetch buffer. -/
def fetW (c : Dev nD) (f : (cc0_scratch0 : Ref sig .tc).ty.Contents (Elt F)) : sProp 𝕄 :=
  (vM : Memref sig .tc .vmem S256x1024 .bf16).view.loc (c : Thread nD τ) ↦[(vM : Memref sig .tc .vmem S256x1024 .bf16).view.set]{fullShare} f

omit [FloatOps F] in
/-- A whole buffer is four disjoint parts that cover it. -/
theorem whole_parts {ℓ : Loc nD τ sig} {S : Fin 4 → Finset (Idx ℓ)} (hu : Finset.univ.biUnion S = Finset.univ)
    (hd : ∀ r r', r ≠ r' → Disjoint (S r) (S r')) (f : Buf (Elt F) ℓ) :
    (ℓ ↦[Finset.univ]{fullShare} f : sProp 𝕄) = bigSep Finset.univ fun r => ℓ ↦[S r]{fullShare} f :=
  (congrArg (fun T => (ℓ ↦[T]{fullShare} f : sProp 𝕄)) hu.symm).trans
    (pointsTo_biUnion Finset.univ S fun r _ r' _ h => hd r r' h)

omit [FloatOps F] in
/-- A whole result buffer is its four row blocks. -/
theorem outW_blocks (c : Dev nD) (f) : (outW c f : sProp 𝕄) = bigSep Finset.univ fun r => outPts c r f :=
  whole_parts (ℓ := (oM : Memref sig .tc .hbm S1024x256 .bf16).view.loc (c : Thread nD τ)) (S := fun r => (oB r).view.set)
    oB_cover (fun r r' h => oB_disjoint r r' h) f
omit [FloatOps F] in
/-- A whole staging buffer is its four column blocks. -/
theorem stgW_blocks (c : Dev nD) : (stgW c (staged X c) : sProp 𝕄) = bigSep Finset.univ fun p => stgPts X c p :=
  whole_parts (ℓ := (gM : Memref sig .tc .vmem S256x1024 .bf16).view.loc (c : Thread nD τ)) (S := fun p => (gB p).view.set)
    gB_cover (fun r r' h => gB_disjoint r r' h) (staged X c)

omit [FloatOps F] in
/-- A whole result buffer, as the blocks that the device and its peers are to write. -/
theorem outW_open (c : Dev nD) (f) :
    (outW c f : sProp 𝕄) ⊢ iprop(outAny c (row c) ∗ bigSep Finset.univ fun j : Fin 3 => outAny c (row (nxt j c))) := by
  rw [outW_blocks, bigSep_nxt c]
  have h (r : Fin 4) : (outPts c r f : sProp 𝕄) ⊢ outAny c r := by
    unfold outAny
    iintro H
    iexists f
    iexact H
  exact BIClass.sep_mono (h _) (bigSep_mono fun j _ => h _)

omit [FloatOps F] in
/-- The row blocks written are the whole result. -/
theorem outW_close (c : Dev nD) :
    iprop(outPts c (row c) (result X c) ∗ bigSep Finset.univ fun j : Fin 3 => outPts c (row (prv j c)) (result X c))
      ⊢ (outW c (result X c) : sProp 𝕄) := by
  rw [outW_blocks, bigSep_prv c]

omit [FloatOps F] in
/-- What the barrier hands over: the row blocks that the sends write. -/
theorem barPay_all (c : Dev nD) :
    (bigSep Finset.univ fun d => barPay (F := F) c d) = bigSep Finset.univ fun j : Fin 3 => outAny (nxt j c) (row c) := by
  rw [bigSep_univ_equiv (⟨opp, opp, opp_opp, opp_opp⟩ : Fin 3 ≃ Fin 3)]
  refine bigSep_congr fun j _ => ?_
  show barPay c (opp j) = _
  unfold barPay
  rw [prv_opp]

/-! ## The loads and the store -/

theorem rW_zero : (![0, 0] : Fin 2 → Nat) = fun _ => 0 := by decide

/-- The load of the fetched copy reads it. -/
theorem step_load_fetched (c : Dev nD) {hl : (vM : Memref sig .tc .vmem S256x1024 .bf16).view.LoadsAt rW.toLoadRect}
    {k : (rW.toLoadRect.shape.Idx → Elt F .bf16) → Prog (TpuEff nD τ sig (Elt F) Λ₀ .tc) α} :
    fetPts X c ⊢ iprop((fetPts X c -∗ runs c (k (fetched X c)) Q) -∗ runs c (.op (.load vM rW.toLoadRect hl) k) Q) := by
  have h := wp_load (defs := defs₀ (F := F)) (Γ := []) (Q := Q) 𝒱₀ (c : Thread nD τ) none Set.univ (m := vM) (r := rW.toLoadRect) (hl := hl) (k := k) (q := fullShare) (f := fetched X c)
    (Finset.subset_univ _)
  have e : (vM : Memref sig .tc .vmem S256x1024 .bf16).view.readAt (Elt F) rW.toLoadRect (fetched X c) = fetched X c :=
    Memref.readAt_unit_zero (Elt F) cc0_scratch0 rW_zero _ _
  rw [e] at h
  unfold fetPts
  rw [View.set_whole]
  exact h

/-- The load of the staging buffer reads whatever it holds. -/
theorem step_load_stage (c : Dev nD) (f : (cc0_scratch1 : Ref sig .tc).ty.Contents (Elt F))
    {hl : (gM : Memref sig .tc .vmem S256x1024 .bf16).view.LoadsAt rW.toLoadRect}
    {k : (rW.toLoadRect.shape.Idx → Elt F .bf16) → Prog (TpuEff nD τ sig (Elt F) Λ₀ .tc) α} (P : Prog (TpuEff nD τ sig (Elt F) Λ₀ .tc) α)
    (hk : ∀ x, k x = P) :
    stgW c f ⊢ iprop((stgW c f -∗ runs c P Q) -∗ runs c (.op (.load gM rW.toLoadRect hl) k) Q) := by
  have h := wp_load (defs := defs₀ (F := F)) (Γ := []) (Q := Q) 𝒱₀ (c : Thread nD τ) none Set.univ (m := gM) (r := rW.toLoadRect) (hl := hl) (k := k) (q := fullShare) (f := f)
    (Finset.subset_univ _)
  rw [hk] at h
  exact h

/-- The store stages the fetched block. -/
theorem step_store (c : Dev nD) (f : (cc0_scratch1 : Ref sig .tc).ty.Contents (Elt F)) {hx : ((gM : Memref sig .tc .vmem S256x1024 .bf16).access rW).Stores Finset.univ}
    {hm : (Finset.univ : Finset rW.shape.Idx) = Finset.univ ∨ ∀ a, rW.stride a = 1} :
    stgW c f ⊢ iprop((stgW c (staged X c) -∗ runs c (k ⟨⟩) Q)
      -∗ runs c (.op (.store gM rW (k0_pay1 (fetched X c)) Finset.univ hx hm) k) Q) := by
  have h := wp_store (defs := defs₀ (F := F)) (Γ := []) (Q := Q) 𝒱₀ (c : Thread nD τ) none Set.univ (m := gM) (r := rW) (w := k0_pay1 (fetched X c)) (Mk := Finset.univ) (hx := hx) (hm := hm) (k := k) (f := f)
    (Finset.subset_univ _)
  have e : ((gM : Memref sig .tc .vmem S256x1024 .bf16).access rW).write (Elt F) f (k0_pay1 (fetched X c)) Finset.univ = staged X c :=
    (Memref.write_access_unit_zero_univ (Elt F) cc0_scratch1 rW_zero _ _ _).trans (stored _)
  rw [e] at h
  exact h

/-- The end of a program. -/
theorem step_done (c : Dev nD) (a : α) : Q a ⊢ runs c (Prog.ret a) Q := by
  unfold runs
  rw [wp_ret]
  exact fupd_intro

/-! ## The body -/

/-- The duties and positions of device `c`: its three signals' duties, its copy's and its fetch's with the positions on
    the barrier, the copy and the fetch semaphore, and for each send and receive theirs. -/
def linear (c : Dev nD) : sProp 𝕄 :=
  iprop((bigSep Finset.univ fun j : Fin 3 => dutyTok ER (barC (nxt j c)) 0 j)
    ∗ (bigSep Finset.univ fun j : Fin 3 => dutyTok ER (sndC j c) 0 0)
    ∗ (bigSep Finset.univ fun j : Fin 3 => dutyTok ER (rcvC j (nxt j c)) 0 0)
    ∗ dutyTok ER (cpyC c) 0 0 ∗ dutyTok ER (inC c) 0 0
    ∗ atPos ER (barC c) 0 ∅ 0
    ∗ (bigSep Finset.univ fun j : Fin 3 => atPos ER (sndC j c) 0 ∅ 0)
    ∗ (bigSep Finset.univ fun j : Fin 3 => atPos ER (rcvC j c) 0 ∅ 0)
    ∗ atPos ER (cpyC c) 0 ∅ 0 ∗ atPos ER (inC c) 0 ∅ 0)

/-- The credit of the launch: the barrier's three units and one block for each receive. -/
def credits (c : Dev nD) : sProp 𝕄 :=
  iprop(cred (tallyAt (barC c) () 3) ∗ bigSep Finset.univ fun j : Fin 3 => cred (tallyAt (rcvC j c) () NB))

/-- What the body starts from; -/
def bodyPre (c : Dev nD) : sProp 𝕄 :=
  iprop(linear c ∗ credits c ∗ argPts X c ∗ (∃ f, outW c f) ∗ (∃ f, fetW c f) ∗ (∃ f, stgW c f))

/-- and what it ends with: the argument unchanged, the result, and all semaphores at zero. -/
def bodyPost (c : Dev nD) : sProp 𝕄 :=
  iprop(argPts X c ∗ outW c (result X c) ∗ fetPts X c ∗ stgW c (staged X c)
    ∗ semVal (barC c) 0 ∗ (bigSep Finset.univ fun j : Fin 3 => semVal (sndC j c) 0) ∗ (bigSep Finset.univ fun j : Fin 3 => semVal (rcvC j c) 0)
    ∗ semVal (cpyC c) 0 ∗ semVal (inC c) 0)

set_option maxHeartbeats 1000000 in
/-- The body on device `c`. -/
theorem body_run (c : Dev nD) (Q : PUnit → sProp 𝕄) :
    iprop(facts X ∗ ow c (O₀ c) ∗ bodyPre X c ∗ ((ow c 0 ∗ bodyPost X c) -∗ Q ⟨⟩)) ⊢ runs c body Q := by
  unfold body
  simp only [semSignalWord, semWaitWord, Prog.lift, Prog.bind_op, Prog.bind_ret, Prog.pure_eq_ret, wp_deviceId, dev1_eq c, dev2_eq c, dev3_eq c]
  unfold bodyPre linear credits O₀
  rw [bigSep_fin3 fun j : Fin 3 => dutyTok ER (barC (nxt j c)) 0 j]
  iintro ⟨#HF, HO, ⟨⟨⟨Htb0, Htb1, Htb2⟩, Hts, Htr, Htc, Hti, Hab, Has, Har, Hac, Hai⟩, ⟨Hcb, Hcr⟩, Harg, ⟨%fo, Hout⟩, ⟨%fv, Hfet⟩, ⟨%fg, Hstg⟩⟩, Hk⟩
  ihave Hout' := (outW_open c fo) $$ Hout
  rw [bigSep_fin3 fun j : Fin 3 => outAny (F := F) c (row (nxt j c))]
  icases Hout' with ⟨Hown, Hp0, Hp1, Hp2⟩
  unfold fetW
  iapply (step_fetch X c fv) $$ [Harg Hfet Hti]
  · isplitr; · iexact HF
    isplitl [Harg]; · iexact Harg
    isplitl [Hfet] <;> iassumption
  iintro Hci
  iapply (step_signal X c (nxt 0 c) 0 rfl (by decide) (O₁ c + dueBar 2 c + dueBar 1 c)) $$ [HO Htb0 Hp0]
  · isplitr; · iexact HF
    isplitl [HO]; · iexact HO
    isplitl [Htb0] <;> iassumption
  iintro HO
  iapply (step_signal X c (nxt 1 c) 1 rfl (by decide) (O₁ c + dueBar 2 c)) $$ [HO Htb1 Hp1]
  · isplitr; · iexact HF
    isplitl [HO]; · iexact HO
    isplitl [Htb1] <;> iassumption
  iintro HO
  iapply (step_signal X c (nxt 2 c) 2 rfl (by decide) (O₁ c)) $$ [HO Htb2 Hp2]
  · isplitr; · iexact HF
    isplitl [HO]; · iexact HO
    isplitl [Htb2] <;> iassumption
  iintro HO
  iapply (step_wait_dma X c inS NX rfl amountOf_in.symm (O₁ c) (mayWait_sends c _ (by decide))) $$ [HO Hci Hai]
  · isplitr; · iexact HF
    isplitl [HO]; · iexact HO
    isplitl [Hci] <;> iassumption
  rw [dmaPay_in]
  unfold inPay
  iintro ⟨HO, Hzi, Hfet, Harg⟩
  iapply (step_load_fetched X c) $$ Hfet
  iintro Hfet
  iapply (step_load_stage c fg _ (fun _ => rfl)) $$ Hstg
  iintro Hstg
  iapply (step_store X c fg) $$ Hstg
  iintro Hstg
  ihave Hstg' := (Entails.of_eq ((stgW_blocks X c).trans (bigSep_nxt c _))) $$ Hstg
  icases Hstg' with ⟨Hsown, Hss⟩
  iapply (step_copy X c (k0_off1 c) (k0_off2 c) (k0_off1_eq c) (k0_off2_eq c)) $$ [Hsown Hown Htc]
  · isplitr; · iexact HF
    isplitl [Hsown]; · iexact Hsown
    isplitl [Hown] <;> iassumption
  iintro Hcc
  iapply (step_wait_bar X c (by decide)) $$ [HO Hcb Hab]
  · isplitr; · iexact HF
    isplitl [HO]; · iexact HO
    isplitl [Hcb] <;> iassumption
  rw [barPay_all]
  iintro ⟨HO, Hzb, Hd⟩
  iapply (exchange_run X c) $$ [HO Hss Hd Hts Htr Has Hcr Har]
  · isplitr; · iexact HF
    unfold talkPre sendRes recvRes
    simp only [bigSep_sep']
    isplitl [HO]; · iexact HO
    isplitl [Hss Hd Hts Htr]
    · isplitl [Hss]; · iexact Hss
      isplitl [Hd]; · iexact Hd
      isplitl [Hts] <;> iassumption
    isplitl [Has]; · iexact Has
    isplitl [Hcr] <;> iassumption
  unfold talkPost sentRes gotRes
  simp only [bigSep_sep']
  iintro ⟨HO, ⟨Hzs, Hss⟩, Hzr, Hgot⟩
  iapply (step_wait_dma X c cpyS (src := gOwn c) (dst := oOwn c) NB rfl amountOf_cpy.symm 0 (mayWait_nothing c _)) $$ [HO Hcc Hac]
  · isplitr; · iexact HF
    isplitl [HO]; · iexact HO
    isplitl [Hcc] <;> iassumption
  rw [dmaPay_cpy]
  unfold cpyPay
  iintro ⟨HO, Hzc, Hown, Hsown⟩
  iapply step_done
  iapply Hk
  isplitl [HO]; · iexact HO
  unfold bodyPost
  isplitl [Harg]; · iexact Harg
  isplitl [Hown Hgot]
  · iapply (outW_close X c)
    isplitl [Hown] <;> iassumption
  isplitl [Hfet]; · iexact Hfet
  isplitl [Hsown Hss]
  · iapply (Entails.of_eq ((stgW_blocks X c).trans (bigSep_nxt c _)).symm)
    isplitl [Hsown] <;> iassumption
  isplitl [Hzb]; · iexact Hzb
  isplitl [Hzs]; · iexact Hzs
  isplitl [Hzr]; · iexact Hzr
  isplitl [Hzc] <;> iassumption

end Cert.Exchange

end
-- ==== Proof.Deal.lean ====
/-
What the launch deals the devices: the semaphores' invariants, and to each device its positions, the duties it pays and the
credit for what it waits for.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (main_arg0 : Ref sig .tc).ty.Contents (Elt F))

/-! ## The cells of a device, kind by kind -/

theorem csem_injective : Function.Injective csem := by decide
theorem kcell_injective : Function.Injective (kcell : Dev nD × Fin 9 → GSem nD τ sig) := by
  rintro ⟨c, k⟩ ⟨c', k'⟩ h
  have hc : c = c' := congrArg (fun g : GSem nD τ sig => g.1.1) h
  have hk : k = k' := csem_injective (congrArg Prod.snd h)
  rw [hc, hk]

omit [FloatOps F] in
theorem sep_regroup (P Q R : sProp 𝕄) : iprop((P ∗ Q) ∗ R) = iprop(P ∗ Q ∗ R) :=
  equiv_iff.mp ⟨BI.sep_assoc, BI.sep_assoc'⟩

omit [FloatOps F] in
/-- A family over the eight DMA semaphores: the sends', the receives', the copy's and the fetch's. -/
theorem bigSep_dmas (Φ : Fin 8 → sProp 𝕄) :
    bigSep Finset.univ Φ = iprop((bigSep Finset.univ fun j : Fin 3 => Φ (sndS j)) ∗ (bigSep Finset.univ fun j : Fin 3 => Φ (rcvS j)) ∗ Φ cpyS ∗ Φ inS) := by
  rw [bigSep_fin3, bigSep_fin3, bigSep_univ_eq_bigSepL [0, 1, 2, 3, 4, 5, 6, 7] (by decide) (by decide)]
  simp only [sep_regroup]
  rfl

omit [FloatOps F] in
/-- A family over the nine cells of a device: the barrier's first. -/
theorem bigSep_cells (Φ : Fin 9 → sProp 𝕄) : bigSep Finset.univ Φ = iprop(Φ 0 ∗ bigSep Finset.univ fun q : Fin 8 => Φ q.succ) := by
  rw [bigSep_univ_eq_bigSepL [0, 1, 2, 3, 4, 5, 6, 7, 8] (by decide) (by decide),
    bigSep_univ_eq_bigSepL [0, 1, 2, 3, 4, 5, 6, 7] (by decide) (by decide)]
  rfl

/-! ## The cells and their tokens at the launch -/

def allCells : Finset (GSem nD τ sig) := Finset.univ.map ⟨kcell, kcell_injective⟩

/-- A token of every duty name on every cell. -/
abbrev tokOf (x : (Dev nD × Fin 9) × Fin 3) : GSem nD τ sig × ℕ × Fin 3 := (kcell x.1, 0, x.2)
theorem tokOf_injective : Function.Injective tokOf := by
  rintro ⟨a, d⟩ ⟨a', d'⟩ h
  have ha : a = a' := kcell_injective (congrArg Prod.fst h)
  have hd : d = d' := congrArg (fun x : GSem nD τ sig × ℕ × Fin 3 => x.2.2) h
  rw [ha, hd]
def allToks : Finset (GSem nD τ sig × ℕ × Fin 3) := Finset.univ.map ⟨tokOf, tokOf_injective⟩

/-- The two ghost states at the launch. -/
def u₀ : UU := (initOf (Pipeline.cells cfgs cellOf_inj) (Pipeline.launchToks cfgs cellOf_inj), initOf allCells allToks)

/-- The tokens of device `c`'s own cells. -/
def toks (c : Dev nD) : sProp 𝕄 :=
  bigSep Finset.univ fun k : Fin 9 => bigSep Finset.univ fun d : Fin 3 => dutyTok ER (kcell (c, k)) 0 d
/-- The positions on them. -/
def poss (c : Dev nD) : sProp 𝕄 := bigSep Finset.univ fun k : Fin 9 => atPos ER (kcell (c, k)) 0 ∅ 0

/-- What the launch hands device `c` of its own cells; -/
def G (c : Dev nD) : sProp 𝕄 :=
  iprop((bigSep Finset.univ fun k : Fin 9 => roundState ER (sched X) (kcell (c, k)) 0)
    ∗ (bigSep Finset.univ fun k : Fin 9 => reached ER (kcell (c, k)) 0) ∗ poss c ∗ toks c)
/-- and what `c` has after all of it is dealt. -/
def G' (c : Dev nD) : sProp 𝕄 := iprop(records X ∗ linear c)

omit [FloatOps F] in
theorem fund_cells : BI.own (ER (initOf allCells allToks)) ⊢ (|==> bigSep Finset.univ (G X) : sProp 𝕄) := by
  have hX (Φ : GSem nD τ sig → sProp 𝕄) :
      bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (sched X) allCells allToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss
  simp only [bigSep_sep']
  isplitl [Hst']; · iexact Hst'
  isplitl [Hr']; · iexact Hr'
  isplitl [Hat'] <;> iassumption

/-! ## The invariants -/

omit [FloatOps F] in
/-- The semaphores that belong to the launch: the eight DMA semaphores; -/
theorem ownSems0_eq (c : Dev nD) : (Pipeline.ownSems0 (Ix := Unit) (Name := ℕ) (U := UU) (Lvl := ℕ) (Val := Elt F) (τ := τ) osem c : sProp 𝕄)
    = bigSep Finset.univ fun q : Fin 8 => semVal ((c : Thread nD τ), .dma q) 0 := by
  rw [Pipeline.ownSems0_eq_of_list c osem [0, 1, 2, 3, 4, 5, 6, 7] (by decide) (by decide),
    bigSep_univ_eq_bigSepL [0, 1, 2, 3, 4, 5, 6, 7] (by decide) (by decide)]
omit [FloatOps F] in
/-- the one other: the barrier. -/
theorem unscopedSems0_eq (c : Dev nD) : (unscopedSems0 c : sProp 𝕄) = semVal (barC c) 0 := by
  unfold unscopedSems0
  rw [bigSep_eq_bigSepL_of_eq [SemLoc.reg barS] (by decide) (by decide)]
  rfl

omit [FloatOps F] in
theorem sems0_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_cells]
  iintro ⟨HO, HB⟩
  isplitl [HB]; · iexact HB
  iexact HO

omit [FloatOps F] in
/-- The invariants of one device's cells are set up. -/
theorem cells_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Fin 9 => know X (kcell (c, k))) ∗ poss c ∗ toks c) := by
  unfold G know
  iintro ⟨Hos, Hus, Hst, Hr, Hat, Htok⟩
  ihave Hv := (sems0_cells (F := F) c) $$ [Hos Hus]
  · isplitl [Hos] <;> iassumption
  imod (show iprop((bigSep Finset.univ fun k : Fin 9 => semVal (kcell (c, k)) 0) ∗ bigSep Finset.univ fun k : Fin 9 => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hv Hst] with Hinv
  · isplitl [Hv] <;> iassumption
  imodintro
  rw [bigSep_sep']
  isplitl [Hinv Hr]
  · isplitl [Hinv] <;> iassumption
  isplitl [Hat] <;> iassumption

/-! ## The tokens go to those who pay -/

omit [FloatOps F] in
/-- The tokens in use of device `c`'s own cells. -/
theorem toks_used (c : Dev nD) :
    (toks c : sProp 𝕄) ⊢ iprop((bigSep Finset.univ fun j : Fin 3 => dutyTok ER (barC c) 0 j)
      ∗ (bigSep Finset.univ fun j : Fin 3 => dutyTok ER (sndC j c) 0 0)
      ∗ (bigSep Finset.univ fun j : Fin 3 => dutyTok ER (rcvC j c) 0 0)
      ∗ dutyTok ER (cpyC c) 0 0 ∗ dutyTok ER (inC c) 0 0) := by
  unfold toks
  rw [bigSep_cells]
  refine (BIClass.sep_mono .rfl (bigSep_mono (Ψ := fun q : Fin 8 => dutyTok ER ((c : Thread nD τ), .dma q) 0 0)
    fun q _ => bigSep_elim (Finset.mem_univ (0 : Fin 3)))).trans ?_
  rw [bigSep_dmas]
  exact .rfl

omit [FloatOps F] in
/-- One thing per device and step, dealt around: what belongs to `nxt j c` goes to `c`. -/
theorem deal_around (T : Fin 3 → Dev nD → sProp 𝕄) :
    (bigSep Finset.univ fun c : Dev nD => bigSep Finset.univ fun j : Fin 3 => T j c)
      = bigSep Finset.univ fun c : Dev nD => bigSep Finset.univ fun j : Fin 3 => T j (nxt j c) := by
  rw [bigSep_univ_comm, bigSep_univ_comm fun (c : Dev nD) (j : Fin 3) => T j (nxt j c)]
  exact bigSep_congr fun j _ => bigSep_univ_equiv (around j) (T j)

/-- The tokens that device `c` pays with. -/
def pays (c : Dev nD) : sProp 𝕄 :=
  iprop((bigSep Finset.univ fun j : Fin 3 => dutyTok ER (barC (nxt j c)) 0 j)
    ∗ (bigSep Finset.univ fun j : Fin 3 => dutyTok ER (sndC j c) 0 0)
    ∗ (bigSep Finset.univ fun j : Fin 3 => dutyTok ER (rcvC j (nxt j c)) 0 0)
    ∗ dutyTok ER (cpyC c) 0 0 ∗ dutyTok ER (inC c) 0 0)

omit [FloatOps F] in
theorem toks_around : (bigSep Finset.univ fun c : Dev nD => (toks c : sProp 𝕄)) ⊢ bigSep Finset.univ fun c : Dev nD => pays c := by
  refine (bigSep_mono fun c _ => toks_used c).trans ?_
  unfold pays
  simp only [bigSep_sep']
  rw [deal_around fun j c => dutyTok ER (barC c) 0 j, deal_around fun j c => dutyTok ER (rcvC j c) 0 0]
  exact fun _ h => h

omit [FloatOps F] in
/-- Positions and tokens to pay with are all that a device needs of its own. -/
theorem linear_intro (c : Dev nD) : iprop(poss c ∗ pays c) ⊢ (linear c : sProp 𝕄) := by
  unfold poss pays linear
  rw [bigSep_cells, bigSep_dmas]
  iintro ⟨⟨Hab, Has, Har, Hac, Hai⟩, Htb, Hts, Htr, Htc, Hti⟩
  isplitl [Htb]; · iexact Htb
  isplitl [Hts]; · iexact Hts
  isplitl [Htr]; · iexact Htr
  isplitl [Htc]; · iexact Htc
  isplitl [Hti]; · iexact Hti
  isplitl [Hab]; · iexact Hab
  isplitl [Has]; · iexact Has
  isplitl [Har]; · iexact Har
  isplitl [Hac]; · iexact Hac
  iexact Hai

omit [FloatOps F] in
theorem deal_all :
    (bigSep Finset.univ fun c : Dev nD => iprop((bigSep Finset.univ fun k : Fin 9 => know X (kcell (c, k))) ∗ poss c ∗ toks c) : sProp 𝕄)
      ⊢ bigSep Finset.univ (G' X) := by
  rw [bigSep_sep', bigSep_sep', ← bigSep_univ_prod (fun ck : Dev nD × Fin 9 => know X (kcell ck))]
  iintro ⟨#HR, Hat, Htok⟩
  ihave Htk := (toks_around (F := F)) $$ Htok
  iapply (show iprop(records X ∗ bigSep Finset.univ fun c : Dev nD => iprop(poss c ∗ pays c)) ⊢ (bigSep Finset.univ (G' X) : sProp 𝕄) from
    (sep_mono_left (BI.bigSep_of_persistent Finset.univ (records X))).trans (by
      rw [← bigSep_sep']
      exact bigSep_mono fun c _ => by unfold G'; exact BIClass.sep_mono .rfl (linear_intro c)))
  isplitr
  · unfold records; iexact HR
  · rw [bigSep_sep']
    isplitl [Hat] <;> iassumption

omit [FloatOps F] in
/-- From every device's semaphores and its part of the launch to what every device has. -/
theorem deal : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => cells_alloc X c).trans (bigSep_fupd _ _)).trans (BI.fupd_mono (deal_all X))

/-! ## The credit -/

/-- What `d` owes to a semaphore of `nxt j d`, read at device `c`: it is `c`'s exactly if `d` is `prv j c`. -/
theorem tally_nxt (j : Fin 3) (d c : Dev nD) (s s' : SemLoc sig) (n : ℕ) :
    (tallyAt ((nxt j d : Thread nD τ), s) () n : CellTallies nD τ sig Unit) ((c : Thread nD τ), s') ()
      = if s' = s ∧ d = prv j c then n else 0 := by
  rw [tallyAt_apply]
  refine if_congr ⟨fun ⟨h, _⟩ => ⟨congrArg Prod.snd h, ?_⟩, fun ⟨h, h'⟩ => ⟨?_, rfl⟩⟩ rfl rfl
  · have hc : c = nxt j d := congrArg (fun g : GSem nD τ sig => g.1.1) h
    rw [hc, prv_nxt]
  · rw [h, h', nxt_prv]

theorem O₀_apply (d : Dev nD) (g : GSem nD τ sig) :
    O₀ d g () = dueRcv 0 d g () + dueRcv 1 d g () + dueRcv 2 d g () + dueBar 2 d g () + dueBar 1 d g () + dueBar 0 d g () := by
  unfold O₀
  rw [O₁_eq]
  rfl

theorem owed_bar (d c : Dev nD) :
    O₀ d (barC c) () = (if d = prv 2 c then 1 else 0) + (if d = prv 1 c then 1 else 0) + (if d = prv 0 c then 1 else 0) := by
  rw [O₀_apply]
  simp only [dueRcv, dueBar, tally_nxt, reduceCtorEq, false_and, if_false, true_and, Nat.zero_add]

theorem owed_rcv (j : Fin 3) (d c : Dev nD) : O₀ d (rcvC j c) () = if d = prv j c then NB else 0 := by
  rw [O₀_apply]
  simp only [dueRcv, dueBar, tally_nxt, reduceCtorEq, false_and, if_false, Nat.add_zero]
  have h (j' : Fin 3) : (SemLoc.dma (rcvS j) : SemLoc sig) = SemLoc.dma (rcvS j') ↔ j = j' := by revert j j'; decide
  simp only [h]
  match j with
  | 0 => simp
  | 1 => simp
  | 2 => simp

theorem launch_bar (c : Dev nD) :
    tallyOn (barC c) (launchCredit (Pipeline.owing O₀) 0 (barC c)) = (tallyAt (barC c) () 3 : CellTallies nD τ sig Unit) := by
  unfold tallyAt
  refine congrArg _ (Finsupp.ext fun u => ?_)
  cases u
  rw [Pipeline.launchCredit_owing, Finsupp.single_eq_same, Finset.sum_congr rfl fun d _ => owed_bar d c]
  simp only [Finset.sum_add_distrib, Finset.sum_ite_eq', Finset.mem_univ, if_true]

theorem launch_rcv (j : Fin 3) (c : Dev nD) :
    tallyOn (rcvC j c) (launchCredit (Pipeline.owing O₀) 0 (rcvC j c)) = (tallyAt (rcvC j c) () NB : CellTallies nD τ sig Unit) := by
  unfold tallyAt
  refine congrArg _ (Finsupp.ext fun u => ?_)
  cases u
  rw [Pipeline.launchCredit_owing, Finsupp.single_eq_same, Finset.sum_congr rfl fun d _ => owed_rcv j d c, Finset.sum_ite_eq',
    if_pos (Finset.mem_univ _)]

/-- The four semaphores of a device that other devices pay onto. -/
abbrev owedSem : Fin 4 → SemLoc sig := Fin.cases (.reg barS) fun j => .dma (rcvS j)
theorem owedSem_injective : Function.Injective owedSem := by decide

omit [FloatOps F] in
/-- The launch's credit holds what a device waits for. -/
theorem credits_intro (c : Dev nD) : (Pipeline.launchCred O₀ c : sProp 𝕄) ⊢ credits c := by
  unfold Pipeline.launchCred credits
  refine (bigSep_subset (Finset.subset_univ (Finset.univ.map ⟨owedSem, owedSem_injective⟩))).trans ?_
  rw [bigSep_map, bigSep_univ_eq_bigSepL [0, 1, 2, 3] (by decide) (by decide), bigSep_fin3, ← launch_bar, ← launch_rcv, ← launch_rcv, ← launch_rcv]
  exact fun _ h => h

end Cert.Exchange

end
-- ==== Proof.Launch.lean ====
/-
The run of the whole program, over any float values: every device ends with its result, its argument unchanged and every
semaphore at zero.
-/
module

public import proofs.«01_k».proof.Proof.Deal
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument of device `c` at the start. -/
abbrev argAt (c : Dev nD) : (main_arg0 : Ref sig .tc).ty.Contents (Elt F) := m ((c : Thread nD τ).loc main_arg0)

/-! ## The one call -/

/-- What the call of device `c` starts from, besides the two scratch buffers; -/
def start (c : Dev nD) : sProp 𝕄 :=
  iprop(facts (argAt m) ∗ linear c ∗ credits c ∗ argPts (argAt m) c ∗ ∃ f, outW c f)
/-- with them. -/
def Φ₀ (c : Dev nD) : sProp 𝕄 := iprop(facts (argAt m) ∗ bodyPre (argAt m) c)

/-- The proof data of the call: no window, and before and after its one point what the body starts from and ends with. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => bodyPost (argAt m) c
  q _ := fullShare
  owed t := match t with
    | ⟨0, _⟩ => O₀ c
    | ⟨_ + 1, _⟩ => 0

theorem owesAt_first (c : Dev nD) : (dats m 0 c).owesAt () t0_0.castSucc ⊢ (ow c (O₀ c) : sProp 𝕄) := by
  unfold Dat.owesAt Pipeline.owesWithin ow
  iintro ⟨%W, -, H⟩
  iexists W
  iexact H
theorem owesAt_last (c : Dev nD) : (ow c 0 : sProp 𝕄) ⊢ (dats m 0 c).owesAt () t0_0.succ := by
  unfold Dat.owesAt Pipeline.owesWithin ow
  iintro ⟨%W, H⟩
  iexists W
  isplitr; · ipureintro; exact fun _ _ => Or.inl trivial
  iexact H

set_option maxRecDepth 4000 in
/-- The call's body meets the proof data. -/
theorem body_obligation (c : Dev nD) : BodyObligation (dats (F := F) m 0 c) (defs₀ (F := F)) 𝒱₀ () Set.univ := fun t => by
  rw [fin_N0 t]
  have h0 (Φ : Fin cfg0.W → sProp 𝕄) : bigSep Finset.univ Φ = iprop(emp) := by
    rw [show (Finset.univ : Finset (Fin cfg0.W)) = ∅ from rfl]; exact bigSep_empty
  rw [h0, h0]
  show iprop(Φ₀ m c ∗ (dats m 0 c).owesAt () t0_0.castSucc ∗ emp) ⊢ runs c
    (cc0_body (Memref.whole main_arg0) (Memref.isWhole_whole _) (Memref.whole main_v1) (Memref.isWhole_whole _)
      (Memref.whole cc0_scratch0) (Memref.isWhole_whole _) (Memref.whole cc0_scratch1) (Memref.isWhole_whole _)
      cc0_scratch2 cc0_scratch3 cc0_scratch4 cc0_scratch5)
    (fun _ => iprop(bodyPost (argAt m) c ∗ (dats m 0 c).owesAt () t0_0.succ ∗ emp))
  rw [body_eq]
  unfold Φ₀
  iintro ⟨⟨#HF, Hp⟩, Ho, -⟩
  ihave HO := (owesAt_first m c) $$ Ho
  iapply (body_run (argAt m) c)
  isplitr; · iexact HF
  isplitl [HO]; · iexact HO
  isplitl [Hp]; · iexact Hp
  iintro ⟨HO, Hp⟩
  isplitl [Hp]; · iexact Hp
  isplitl [HO]
  · iapply (owesAt_last m c); iexact HO
  iempintro

/-! ## The side conditions of the launch -/

theorem ownSemFacts : Pipeline.OwnSemFacts cfg0.spec osem := by decide

omit [FloatOps F] in
/-- The argument's points-to, as the launch states it; -/
theorem argPts_eq (X : Dev nD → (main_arg0 : Ref sig .tc).ty.Contents (Elt F)) (c : Dev nD) :
    (argPts X c : sProp 𝕄) = (((c : Thread nD τ).loc main_arg0) ↦{fullShare} X c) := by
  unfold argPts; rw [View.set_whole]
omit [FloatOps F] in
/-- the fetch buffer's. -/
theorem fetW_eq (c : Dev nD) (f) : (fetW c f : sProp 𝕄) = (((c : Thread nD τ).loc cc0_scratch0) ↦{fullShare} f) := by
  unfold fetW; rw [View.set_whole]

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argAt m) c)
      ⊢ |={Set.univ}=> iprop(start m c ∗ emp) := by
  rw [show Pipeline.unscopedRestP Pipeline.Prefetch.none cfg0.spec c (fun b => m ((c : Thread nD τ).loc b))
    = (Pipeline.unscopedRest cfg0.spec c (fun b => m ((c : Thread nD τ).loc b)) : sProp 𝕄) from Pipeline.unscopedRestP_none _ _ _, unscopedRest0_eq]
  unfold start G' facts
  rw [argPts_eq]
  iintro ⟨⟨Hx, Hout⟩, Hlev, Hcr, -, HR, Hlin⟩
  ihave Hc := (credits_intro (F := F) c) $$ Hcr
  imodintro
  isplitl
  · isplitl [HR Hlev]
    · isplitl [HR] <;> iassumption
    isplitl [Hlin]; · iexact Hlin
    isplitl [Hc]; · iexact Hc
    isplitl [Hx]; · iexact Hx
    iexists (m ((c : Thread nD τ).loc main_v1))
    unfold outW
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold start Φ₀ bodyPre
  iintro ⟨⟨HF, Hlin, Hcr, Hx, Hout⟩, -, ⟨%fv, Hv⟩, ⟨%fg, Hg⟩⟩
  isplitl [HF]; · iexact HF
  isplitl [Hlin]; · iexact Hlin
  isplitl [Hcr]; · iexact Hcr
  isplitl [Hx]; · iexact Hx
  isplitl [Hout]; · iexact Hout
  isplitl [Hv]
  · iexists fv; rw [fetW_eq]; iexact Hv
  iexists fg
  unfold stgW
  iexact Hg

/-- What is left of the call in the end: the argument, the result and the barrier semaphore at zero. -/
def final (c : Dev nD) : sProp 𝕄 :=
  iprop(argPts (argAt m) c ∗ outW c (result (argAt m) c) ∗ unscopedSems0 c)

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = bodyPost (argAt m) c from rfl, scopedRest0_eq, ownSems0_eq, bigSep_dmas]
  unfold final bodyPost
  rw [unscopedSems0_eq]
  iintro ⟨Hx, Hout, Hv, Hg, HzB, HzS, HzR, HzC, HzI⟩
  isplitl [Hx Hout HzB]
  · isplitl [Hx]; · iexact Hx
    isplitl [Hout] <;> iassumption
  isplitl [HzS HzR HzC HzI]
  · isplitl [HzS]; · iexact HzS
    isplitl [HzR]; · iexact HzR
    isplitl [HzC] <;> iassumption
  isplitl [Hv]
  · iexists (fetched (argAt m) c)
    rw [← fetW_eq]
    unfold fetPts fetW
    iexact Hv
  iexists (staged (argAt m) c)
  unfold stgW
  iexact Hg

theorem waits (c : Dev nD) : (levAts L lv : sProp 𝕄) ⊢ Pipeline.cellsWaits cfgs (dats m) () 0 c :=
  Pipeline.cellsWaits_intro cfgs (dats m) () 0 c fun w _ _ => w.elim0

/-- What the memory `s` holds of device `c` in the end. -/
def Ends (c : Dev nD) (s : MemSt nD τ sig (Elt F)) : Prop :=
  s.mem ((c : Thread nD τ).loc main_v1) = result (argAt m) c ∧ s.mem ((c : Thread nD τ).loc main_arg0) = argAt m c

omit [FloatOps F] in
/-- The memory holds what a points-to says. -/
theorem read_whole {ℓ : Loc nD τ sig} (f : Buf (Elt F) ℓ) (s : Phys nD τ sig (Elt F)) :
    iprop((ℓ ↦{fullShare} f) ∗ SI s) ⊢ (iprop(⌜s.mem.mem ℓ = f⌝ ∗ SI s) : sProp 𝕄) := by
  have h := pointsTo_read_all (Ix := Unit) (Name := ℕ) (U := UU) (Lvl := ℕ) (Finset.univ : Finset Unit) (fun _ => ℓ) (fun _ => f) s
  rw [bigSep_univ_of_subsingleton ()] at h
  refine h.trans (BIClass.sep_mono (BI.pure_mono fun h => h () (Finset.mem_univ _)) .rfl)

theorem final_read (c : Dev nD) (s : Phys nD τ sig (Elt F)) :
    iprop(final m c ∗ emp ∗ SI s)
      ⊢ (|={Set.univ}=> iprop(⌜Ends m c s.mem ∧ ∀ sm : SemLoc sig, sm.isScoped .tc = false → s.mem.sem ((c.tc : Thread nD τ), sm) = 0⌝ ∗ SI s) : sProp 𝕄) := by
  unfold final outW
  rw [argPts_eq]
  iintro ⟨⟨Hx, Hout, Hz⟩, -, HSI⟩
  ihave H1 := (read_whole _ s) $$ [Hx HSI]
  · isplitl [Hx] <;> iassumption
  icases H1 with ⟨%h1, HSI⟩
  ihave H2 := (read_whole _ s) $$ [Hout HSI]
  · isplitl [Hout] <;> iassumption
  icases H2 with ⟨%h2, HSI⟩
  imod (Pipeline.unscopedSems0_read (X := unscopedSems0 c) (c := c) fupd_intro s) $$ [Hz HSI] with ⟨%h3, HSI⟩
  · isplitl [Hz] <;> iassumption
  imodintro
  isplitr
  · ipureintro; exact ⟨⟨h2, h1⟩, h3⟩
  iexact HSI

/-! ## The run -/

set_option maxRecDepth 8000 in
/-- For any float values, from any memory with zero counters: the program terminates on all devices together under every fair
    schedule, and at the end each device has its result, its argument unchanged and every semaphore at zero. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G (argAt m)) (G' := G' (argAt m)) (u₀ := u₀)
    (hu₀ := by
      unfold u₀
      iintro Hu
      ihave H := (ownU_pair _ _) $$ Hu
      icases H with ⟨HP, HX⟩
      imod (fund_cells (argAt m)) $$ HX with HG
      imodintro
      isplitl [HP] <;> iassumption)
    (hglob := deal (argAt m))
    (hA := fun _ _ => rfl) (hpf := fun _ k => k.elim0)
    (X := start m) (Y := final m) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.Exchange

end
-- ==== Proof.Placed.lean ====
/-
What every device is to hold, said of the whole array: if each device starts with its rows of one 1024 by 1024 array, the
exchange leaves it with its columns of the same array.
-/
module

public import proofs.«01_k».proof.Proof.Geometry
public import Idealize.ShloMosaic.Lib.Layout

@[expose] public section

noncomputable section

namespace Cert.Exchange

open Cert.KernelIdeal
open Idealize.ShloMosaic

/-- The whole array. -/
abbrev Whole : Shape := ⟨2, ![1024, 1024]⟩

/-- Device `c`'s part of an array whose rows are cut along `z`; -/
abbrev rowsOf {α : Type} (c : Dev nD) (v : Whole.Idx → α) : S256x1024.Idx → α :=
  Layout.blockN ⟨2, ![256, 1024]⟩ ⟨2, ![1024, 1024]⟩ (Layout.meshBlock [2, 2, 4] ![[2], []] c) v
/-- of an array whose columns are cut along `z`. -/
abbrev colsOf {α : Type} (c : Dev nD) (v : Whole.Idx → α) : S1024x256.Idx → α :=
  Layout.blockN ⟨2, ![1024, 256]⟩ ⟨2, ![1024, 1024]⟩ (Layout.meshBlock [2, 2, 4] ![[], [2]] c) v

/-- On the axis cut along `z` a device's block number is its place in its group, and on the whole axis it is zero. -/
theorem rows_at (c : Dev nD) : ((Layout.meshBlock [2, 2, 4] ![[2], []] c) (0 : Fin 2)).val = c.val % 4
    ∧ ((Layout.meshBlock [2, 2, 4] ![[2], []] c) (1 : Fin 2)).val = 0 := by revert c; decide
/-- The same for the columns. -/
theorem cols_at (c : Dev nD) : ((Layout.meshBlock [2, 2, 4] ![[], [2]] c) (0 : Fin 2)).val = 0
    ∧ ((Layout.meshBlock [2, 2, 4] ![[], [2]] c) (1 : Fin 2)).val = c.val % 4 := by revert c; decide

/-- The member of a group at place `r` is at place `r`. -/
theorem mate_place (r : Fin 4) (c : Dev nD) : (mate r c).val % 4 = r.val := by revert r c; decide

/-- An element of a block of a matrix, by its row and column in the matrix. -/
theorem blockN_at {α : Type} {p q P Q : Nat} {kN : Fin 2 → Nat} (j : (b : Fin 2) → Fin (kN b)) (v : Shape.Idx ⟨2, ![P, Q]⟩ → α)
    (h : Layout.TilesN ⟨2, ![p, q]⟩ ⟨2, ![P, Q]⟩ kN) (i : Shape.Idx ⟨2, ![p, q]⟩) (k : Shape.Idx ⟨2, ![P, Q]⟩)
    (h0 : (k (0 : Fin 2)).val = (j 0).val * p + (i (0 : Fin 2)).val) (h1 : (k (1 : Fin 2)).val = (j 1).val * q + (i (1 : Fin 2)).val) :
    Layout.blockN ⟨2, ![p, q]⟩ ⟨2, ![P, Q]⟩ j v h i = v k := by
  refine congrArg v (funext fun b => Fin.ext ?_)
  match b with
  | ⟨0, _⟩ => exact h0.symm
  | ⟨1, _⟩ => exact h1.symm

/-- Element `i` of the rows of device `c`, by its row and column in the whole array; -/
theorem rowsOf_eq {α : Type} (c : Dev nD) (v : Whole.Idx → α) (i : S256x1024.Idx) (k : Whole.Idx)
    (h0 : (k (0 : Fin 2)).val = (c.val % 4) * 256 + (i (0 : Fin 2)).val) (h1 : (k (1 : Fin 2)).val = (i (1 : Fin 2)).val) :
    rowsOf c v i = v k := by
  refine blockN_at _ v _ i k ?_ ?_
  · rw [(rows_at c).1]; exact h0
  · rw [(rows_at c).2, Nat.zero_mul, Nat.zero_add]; exact h1

/-- the same for its columns. -/
theorem colsOf_eq {α : Type} (c : Dev nD) (v : Whole.Idx → α) (i : S1024x256.Idx) (k : Whole.Idx)
    (h0 : (k (0 : Fin 2)).val = (i (0 : Fin 2)).val) (h1 : (k (1 : Fin 2)).val = (c.val % 4) * 256 + (i (1 : Fin 2)).val) :
    colsOf c v i = v k := by
  refine blockN_at _ v _ i k ?_ ?_
  · rw [(cols_at c).1, Nat.zero_mul, Nat.zero_add]; exact h0
  · rw [(cols_at c).2]; exact h1

/-- Element `i` of device `c`'s result, as a place in the whole array. -/
def place (c : Dev nD) (i : S1024x256.Idx) : Whole.Idx := fun b => match b with
  | ⟨0, _⟩ => ⟨(i (0 : Fin 2)).val, (i (0 : Fin 2)).isLt⟩
  | ⟨1, _⟩ => ⟨(c.val % 4) * 256 + (i (1 : Fin 2)).val, by
      have h : (i (1 : Fin 2)).val < 256 := (i (1 : Fin 2)).isLt
      show _ < 1024
      omega⟩

/-- The exchange of the rows of an array leaves each device with its columns of that array. -/
theorem result_placed {α : Type} (X : Dev nD → S256x1024.Idx → α) (v : Whole.Idx → α) (hX : ∀ c, X c = rowsOf c v) (c : Dev nD)
    (i : S1024x256.Idx) : X (mate (blockOf i) c) (origin c i) = colsOf c v i := by
  rw [hX, colsOf_eq c v i (place c i) rfl rfl]
  refine rowsOf_eq _ v _ _ ?_ ?_
  · rw [mate_place]
    show (i (0 : Fin 2)).val = (i (0 : Fin 2)).val / 256 * 256 + (i (0 : Fin 2)).val % 256
    omega
  · show (c.val % 4) * 256 + (i (1 : Fin 2)).val = 256 * (c.val % 4) + (i (1 : Fin 2)).val
    omega

end Cert.Exchange

end
-- ==== Proof.References.lean ====
/-
The references' runs. Both return their argument: the run changes no buffer, and no counter is declared.
-/
module

public import proofs.«01_k».proof.Proof.Gen.ReferenceIdeal
public import proofs.«01_k».proof.Proof.Gen.Reference
public import Idealize.ShloMosaic.Lib.Claim

@[expose] public section

noncomputable section

namespace Cert.Exchange

open Idealize.ShloMosaic Idealize.ShloMosaic.TcCoe Idealize.SL.Sem

/-- The reference's run, over any float values: the argument is kept, and the counters end at zero. -/
theorem reference_run {F : FTy → Type} [FloatOps F]
    (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F)))
      ⟨m, fun _ => 0, g⟩
      (fun r => (∀ c : Dev Cert.ReferenceIdeal.nD,
          r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0))
        ∧ r.2.sem = fun _ => 0) := by
  hlo_run
  · exact fun _ => trivial
  · exact sem_eq_zero_of_no_sems (by decide) _

end Cert.Exchange

end
-- ==== Proof.lean ====
/-
The proof of `Cert.Claim` (proofs.«01_k».proof.Defs): the four frames, the two value claims and `preserves`. The kernel's
run is `Cert.Exchange.run_main` (Proof/Launch.lean), stated once over any float values and read here at the words and at the
reals; the reference's is `Cert.Exchange.reference_run` (Proof/References.lean), read the same way; that a device's result is
its part of the whole array is `Cert.Exchange.result_placed` (Proof/Placed.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Reference
public import proofs.«01_k».proof.Proof.Launch
public import proofs.«01_k».proof.Proof.Placed
public import proofs.«01_k».proof.Proof.References
public import Idealize.ShloMosaic.Adequacy
public import Idealize.ShloMosaic.Init

@[expose] public section

noncomputable section

namespace Cert.Proof

open Idealize.ShloMosaic Idealize.SL.Sem Cert.Exchange

/-- Every run of the kernel at the words ends, keeps its argument and leaves the counters at zero. -/
theorem frame_kernel : Cert.quiescent_Kernel := fun m ρ _ =>
  (θ_run Cert.KernelIdeal.defs _ _).mono (fun _ h => ⟨fun c => (h.1 c).2, h.2⟩) (run_main (F := Bits) m ρ)

/-- The same at the reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- Every run of the reference at the reals ends, keeps its argument and leaves the counters at zero. -/
theorem frame_referenceIdeal : Cert.quiescent_ReferenceIdeal := fun m ρ _ => reference_run (F := Ideal) m ρ

/-- The same at the words. -/
theorem frame_reference : Cert.quiescent_Reference := fun m ρ _ => reference_run (F := Bits) m ρ

/-- At the reals: each device ends with its columns of the array whose rows the devices started with, which is what the
    reference returns. -/
theorem algebraic : Cert.algebraic_KernelIdeal_ReferenceIdeal := fun m ρ m' ρ' _ hagree =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (funext (result_placed (argAt m) _ hagree c)), (h.1 c).2⟩) (run_main (F := Ideal) m ρ),
    (θ_run Cert.ReferenceIdeal.defs _ _).mono (fun _ h => ⟨h.1 0, h.1 0⟩) (reference_run (F := Ideal) m' ρ')⟩

/-- The same at the words, bit for bit. -/
theorem bitexact : Cert.bitexact_Kernel_Reference := fun m ρ m' ρ' _ hagree =>
  ⟨m' (((0 : Dev Cert.Reference.nD).tc : Thread Cert.Reference.nD Cert.Reference.τ).loc Cert.Reference.main_arg0),
    (θ_run Cert.KernelIdeal.defs _ _).mono
      (fun _ h c => ⟨(h.1 c).1.trans (funext (result_placed (argAt m) _ hagree c)), (h.1 c).2⟩) (run_main (F := Bits) m ρ),
    (θ_run Cert.ReferenceIdeal.defs _ _).mono (fun _ h => ⟨h.1 0, h.1 0⟩) (reference_run (F := Bits) m' ρ')⟩

/-- All of the claims, with the evidence that each program's stated facts hold. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
